-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x65536 : Shape := ⟨2, ![16, 65536]⟩
abbrev S16x65536x64 : Shape := ⟨3, ![16, 65536, 64]⟩
abbrev S2x16x64 : Shape := ⟨3, ![2, 16, 64]⟩
abbrev S128x64 : Shape := ⟨2, ![128, 64]⟩
abbrev S2048 : Shape := ⟨1, ![2048]⟩
abbrev S64 : Shape := ⟨1, ![64]⟩
abbrev S_ : Shape := ⟨0, ![]⟩
abbrev S1x2048 : Shape := ⟨2, ![1, 2048]⟩
abbrev S1x128x64 : Shape := ⟨3, ![1, 128, 64]⟩
abbrev S16 : Shape := ⟨1, ![16]⟩
abbrev S1 : Shape := ⟨1, ![1]⟩
abbrev S1x16 : Shape := ⟨2, ![1, 16]⟩
abbrev S1x1x64 : Shape := ⟨3, ![1, 1, 64]⟩
abbrev S16x61440 : Shape := ⟨2, ![16, 61440]⟩
abbrev S240x1x4096 : Shape := ⟨3, ![240, 1, 4096]⟩
abbrev S16x1x64 : Shape := ⟨3, ![16, 1, 64]⟩
abbrev S1x1x4096 : Shape := ⟨3, ![1, 1, 4096]⟩
abbrev S1x4096x64 : Shape := ⟨3, ![1, 4096, 64]⟩
abbrev S4096 : Shape := ⟨1, ![4096]⟩
abbrev S4096x64 : Shape := ⟨2, ![4096, 64]⟩
abbrev S16x64 : Shape := ⟨2, ![16, 64]⟩
abbrev S1x16x64 : Shape := ⟨3, ![1, 16, 64]⟩
abbrev S16x1x1x64 : Shape := ⟨4, ![16, 1, 1, 64]⟩

abbrev nBuf : Table → Nat
  | .hbm => 14
  | .local .tc .vmem => 6
  | .local .scVector .vmem => 6
  | _ => 0

abbrev bufTy : (tb : Table) → Fin (nBuf tb) → BufTy
  | .hbm, ⟨0, _⟩ => ⟨S16x65536, .f32⟩
  | .hbm, ⟨1, _⟩ => ⟨S16x65536x64, .f32⟩
  | .hbm, ⟨2, _⟩ => ⟨S2x16x64, .f32⟩
  | .hbm, ⟨3, _⟩ => ⟨S16x61440, .f32⟩
  | .hbm, ⟨4, _⟩ => ⟨S240x1x4096, .f32⟩
  | .hbm, ⟨5, _⟩ => ⟨S16x1x64, .f32⟩
  | .hbm, ⟨6, _⟩ => ⟨S16x64, .f32⟩
  | .hbm, ⟨7, _⟩ => ⟨S1x16x64, .f32⟩
  | .hbm, ⟨8, _⟩ => ⟨S16x64, .f32⟩
  | .hbm, ⟨9, _⟩ => ⟨S16x64, .f32⟩
  | .hbm, ⟨10, _⟩ => ⟨S1x16x64, .f32⟩
  | .hbm, ⟨11, _⟩ => ⟨S16x64, .f32⟩
  | .hbm, ⟨12, _⟩ => ⟨S16x64, .f32⟩
  | .hbm, ⟨13, _⟩ => ⟨S16x1x1x64, .f32⟩
  | .local .tc .vmem, ⟨0, _⟩ => ⟨S1x1x4096, .f32⟩
  | .local .tc .vmem, ⟨1, _⟩ => ⟨S1x1x4096, .f32⟩
  | .local .tc .vmem, ⟨2, _⟩ => ⟨S1x4096x64, .f32⟩
  | .local .tc .vmem, ⟨3, _⟩ => ⟨S1x4096x64, .f32⟩
  | .local .tc .vmem, ⟨4, _⟩ => ⟨S1x1x64, .f32⟩
  | .local .tc .vmem, ⟨5, _⟩ => ⟨S1x1x64, .f32⟩
  | .local .scVector .vmem, ⟨0, _⟩ => ⟨S128x64, .f32⟩
  | .local .scVector .vmem, ⟨1, _⟩ => ⟨S128x64, .f32⟩
  | .local .scVector .vmem, ⟨2, _⟩ => ⟨S128x64, .f32⟩
  | .local .scVector .vmem, ⟨3, _⟩ => ⟨S128x64, .f32⟩
  | .local .scVector .vmem, ⟨4, _⟩ => ⟨S2048, .f32⟩
  | .local .scVector .vmem, ⟨5, _⟩ => ⟨S64, .f32⟩
  | _, _ => ⟨S16x65536, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c61440_i32 : BitVec 32 := 61440#32
  let arg0 : BitVec 32 := BitVec.ofNat 32 (i 0).val
  let c2048_i32 : BitVec 32 := 2048#32
  let v0 : BitVec 32 := Scalar.muli arg0 c2048_i32
  let v1 : BitVec 32 := Scalar.addi c61440_i32 v0
  ![arg1.toNat, v1.toNat]
def k0_off2 (i : grid0.Coords) (c0_i32 : BitVec 32) : Fin 3 → Nat :=
  let arg1 : BitVec 32 := BitVec.ofNat 32 (i 1).val
  let c61440_i32 : BitVec 32 := 61440#32
  let arg0 : BitVec 32 := BitVec.ofNat 32 (i 0).val
  let c2048_i32 : BitVec 32 := 2048#32
  let v0 : BitVec 32 := Scalar.muli arg0 c2048_i32
  let v1 : BitVec 32 := Scalar.addi c61440_i32 v0
  let v6 : BitVec 32 := Scalar.addi v1 c0_i32
  let c0_i32_0 : BitVec 32 := 0#32
  ![arg1.toNat, v6.toNat, 0]
@[reducible] def k0_t1_loop : Scf.Loop 32 :=
  let c0_i32_8 : BitVec 32 := 0#32
  let c4_i32 : BitVec 32 := 4#32
  let v31 : BitVec 32 := Scalar.addi c0_i32_8 c4_i32
  let c1_i32 : BitVec 32 := 1#32
  ⟨c0_i32_8, v31, c1_i32⟩
def k0_off3 (i : grid0.Coords) (k0_t1 : Fin k0_t1_loop.trips) (c0_i32_11 : BitVec 32) : Fin 3 → Nat :=
  let arg1 : BitVec 32 := BitVec.ofNat 32 (i 1).val
  let c61440_i32 : BitVec 32 := 61440#32
  let arg0 : BitVec 32 := BitVec.ofNat 32 (i 0).val
  let c2048_i32 : BitVec 32 := 2048#32
  let v0 : BitVec 32 := Scalar.muli arg0 c2048_i32
  let v1 : BitVec 32 := Scalar.addi c61440_i32 v0
  let c0_i32_8 : BitVec 32 := 0#32
  let c1_i32 : BitVec 32 := 1#32
  let arg16 : BitVec 32 := Scf.iv c0_i32_8 c1_i32 k0_t1
  let c4_i32_10 : BitVec 32 := 4#32
  let v41 : BitVec 32 := Scalar.muli arg16 c4_i32_10
  let v42 : BitVec 32 := Scalar.addi v41 c0_i32_11
  let c128_i32_12 : BitVec 32 := 128#32
  let v43 : BitVec 32 := Scalar.muli v42 c128_i32_12
  let v44 : BitVec 32 := Scalar.addi v1 v43
  let c0_i32_13 : BitVec 32 := 0#32
  ![arg1.toNat, v44.toNat, 0]
@[reducible] def k0_t2_loop : Scf.Loop 32 :=
  let c0_i32_15 : BitVec 32 := 0#32
  let c8_i32 : BitVec 32 := 8#32
  let v49 : BitVec 32 := Scalar.addi c0_i32_15 c8_i32
  let c1_i32_16 : BitVec 32 := 1#32
  ⟨c0_i32_15, v49, c1_i32_16⟩
def k0_off4 (k0_t1 : Fin k0_t1_loop.trips) (k0_t2 : Fin k0_t2_loop.trips) : Fin 1 → Nat :=
  let c0_i32_8 : BitVec 32 := 0#32
  let c1_i32 : BitVec 32 := 1#32
  let arg16 : BitVec 32 := Scf.iv c0_i32_8 c1_i32 k0_t1
  let c4_i32_10 : BitVec 32 := 4#32
  let v41 : BitVec 32 := Scalar.muli arg16 c4_i32_10
  let c0_i32_11 : BitVec 32 := 0#32
  let v42 : BitVec 32 := Scalar.addi v41 c0_i32_11
  let c128_i32_54 : BitVec 32 := 128#32
  let v97 : BitVec 32 := Scalar.muli v42 c128_i32_54
  let c0_i32_15 : BitVec 32 := 0#32
  let c1_i32_16 : BitVec 32 := 1#32
  let arg25 : BitVec 32 := Scf.iv c0_i32_15 c1_i32_16 k0_t2
  let c16_i32_55 : BitVec 32 := 16#32
  let v98 : BitVec 32 := Scalar.muli arg25 c16_i32_55
  let v99 : BitVec 32 := Scalar.addi v97 v98
  let v100 : Index := Scalar.indexCast v99
  ![v100.toNat]
def k0_off5 (k0_t2 : Fin k0_t2_loop.trips) (c0_i32_57 : BitVec 32) : Fin 2 → Nat :=
  let c0_i32_15 : BitVec 32 := 0#32
  let c1_i32_16 : BitVec 32 := 1#32
  let arg25 : BitVec 32 := Scf.iv c0_i32_15 c1_i32_16 k0_t2
  let c16_i32_56 : BitVec 32 := 16#32
  let v105 : BitVec 32 := Scalar.muli arg25 c16_i32_56
  let v106 : BitVec 32 := Scalar.addi v105 c0_i32_57
  let v107 : Index := Scalar.indexCast v106
  let c0_58 : Index := 0#32
  ![v107.toNat, 0]
def k0_off6 (k0_t2 : Fin k0_t2_loop.trips) (c0_i32_60 : BitVec 32) : Fin 2 → Nat :=
  let c0_i32_15 : BitVec 32 := 0#32
  let c1_i32_16 : BitVec 32 := 1#32
  let arg25 : BitVec 32 := Scf.iv c0_i32_15 c1_i32_16 k0_t2
  let c16_i32_59 : BitVec 32 := 16#32
  let v111 : BitVec 32 := Scalar.muli arg25 c16_i32_59
  let v112 : BitVec 32 := Scalar.addi v111 c0_i32_60
  let v113 : Index := Scalar.indexCast v112
  let c16_61 : Index := 16#32
  ![v113.toNat, 16]
def k0_off7 (k0_t2 : Fin k0_t2_loop.trips) (c0_i32_63 : BitVec 32) : Fin 2 → Nat :=
  let c0_i32_15 : BitVec 32 := 0#32
  let c1_i32_16 : BitVec 32 := 1#32
  let arg25 : BitVec 32 := Scf.iv c0_i32_15 c1_i32_16 k0_t2
  let c16_i32_62 : BitVec 32 := 16#32
  let v117 : BitVec 32 := Scalar.muli arg25 c16_i32_62
  let v118 : BitVec 32 := Scalar.addi v117 c0_i32_63
  let v119 : Index := Scalar.indexCast v118
  let c32_64 : Index := 32#32
  ![v119.toNat, 32]
def k0_off8 (k0_t2 : Fin k0_t2_loop.trips) (c0_i32_66 : BitVec 32) : Fin 2 → Nat :=
  let c0_i32_15 : BitVec 32 := 0#32
  let c1_i32_16 : BitVec 32 := 1#32
  let arg25 : BitVec 32 := Scf.iv c0_i32_15 c1_i32_16 k0_t2
  let c16_i32_65 : BitVec 32 := 16#32
  let v123 : BitVec 32 := Scalar.muli arg25 c16_i32_65
  let v124 : BitVec 32 := Scalar.addi v123 c0_i32_66
  let v125 : Index := Scalar.indexCast v124
  let c48_67 : Index := 48#32
  ![v125.toNat, 48]
def k0_cond1 (k0_t1 : Fin k0_t1_loop.trips) : BitVec 1 :=
  let c0_i32_8 : BitVec 32 := 0#32
  let c1_i32 : BitVec 32 := 1#32
  let arg16 : BitVec 32 := Scf.iv c0_i32_8 c1_i32 k0_t1
  let c4_i32_10 : BitVec 32 := 4#32
  let v41 : BitVec 32 := Scalar.muli arg16 c4_i32_10
  let c0_i32_11 : BitVec 32 := 0#32
  let v42 : BitVec 32 := Scalar.addi v41 c0_i32_11
  let c4_i32_18 : BitVec 32 := 4#32
  let v51 : BitVec 32 := Scalar.addi v42 c4_i32_18
  let c16_i32 : BitVec 32 := 16#32
  let v52 : BitVec 1 := Scalar.cmpi .slt v51 c16_i32
  let v53 : BitVec 32 := Scalar.extui v52
  let c0_i32_19 : BitVec 32 := 0#32
  let v54 : BitVec 1 := Scalar.cmpi .ne v53 c0_i32_19
  v54

def k0_off9 (i : grid0.Coords) (k0_t1 : Fin k0_t1_loop.trips) : Fin 3 → Nat :=
  let arg1 : BitVec 32 := BitVec.ofNat 32 (i 1).val
  let c61440_i32 : BitVec 32 := 61440#32
  let arg0 : BitVec 32 := BitVec.ofNat 32 (i 0).val
  let c2048_i32 : BitVec 32 := 2048#32
  let v0 : BitVec 32 := Scalar.muli arg0 c2048_i32
  let v1 : BitVec 32 := Scalar.addi c61440_i32 v0
  let c0_i32_8 : BitVec 32 := 0#32
  let c1_i32 : BitVec 32 := 1#32
  let arg16 : BitVec 32 := Scf.iv c0_i32_8 c1_i32 k0_t1
  let c4_i32_10 : BitVec 32 := 4#32
  let v41 : BitVec 32 := Scalar.muli arg16 c4_i32_10
  let c0_i32_11 : BitVec 32 := 0#32
  let v42 : BitVec 32 := Scalar.addi v41 c0_i32_11
  let c4_i32_54 : BitVec 32 := 4#32
  let v97 : BitVec 32 := Scalar.addi v42 c4_i32_54
  let c128_i32_55 : BitVec 32 := 128#32
  let v98 : BitVec 32 := Scalar.muli v97 c128_i32_55
  let v99 : BitVec 32 := Scalar.addi v1 v98
  let c0_i32_56 : BitVec 32 := 0#32
  ![arg1.toNat, v99.toNat, 0]
@[reducible] def k0_t3_loop : Scf.Loop 32 :=
  let c0_i32_25 : BitVec 32 := 0#32
  let c8_i32_26 : BitVec 32 := 8#32
  let v63 : BitVec 32 := Scalar.addi c0_i32_25 c8_i32_26
  let c1_i32_27 : BitVec 32 := 1#32
  ⟨c0_i32_25, v63, c1_i32_27⟩
def k0_off10 (k0_t1 : Fin k0_t1_loop.trips) (k0_t3 : Fin k0_t3_loop.trips) : Fin 1 → Nat :=
  let c0_i32_8 : BitVec 32 := 0#32
  let c1_i32 : BitVec 32 := 1#32
  let arg16 : BitVec 32 := Scf.iv c0_i32_8 c1_i32 k0_t1
  let c4_i32_20 : BitVec 32 := 4#32
  let v55 : BitVec 32 := Scalar.muli arg16 c4_i32_20
  let c1_i32_21 : BitVec 32 := 1#32
  let v56 : BitVec 32 := Scalar.addi v55 c1_i32_21
  let c128_i32_54 : BitVec 32 := 128#32
  let v97 : BitVec 32 := Scalar.muli v56 c128_i32_54
  let c0_i32_25 : BitVec 32 := 0#32
  let c1_i32_27 : BitVec 32 := 1#32
  let arg25 : BitVec 32 := Scf.iv c0_i32_25 c1_i32_27 k0_t3
  let c16_i32_55 : BitVec 32 := 16#32
  let v98 : BitVec 32 := Scalar.muli arg25 c16_i32_55
  let v99 : BitVec 32 := Scalar.addi v97 v98
  let v100 : Index := Scalar.indexCast v99
  ![v100.toNat]
def k0_off11 (k0_t3 : Fin k0_t3_loop.trips) (c0_i32_57 : BitVec 32) : Fin 2 → Nat :=
  let c0_i32_25 : BitVec 32 := 0#32
  let c1_i32_27 : BitVec 32 := 1#32
  let arg25 : BitVec 32 := Scf.iv c0_i32_25 c1_i32_27 k0_t3
  let c16_i32_56 : BitVec 32 := 16#32
  let v105 : BitVec 32 := Scalar.muli arg25 c16_i32_56
  let v106 : BitVec 32 := Scalar.addi v105 c0_i32_57
  let v107 : Index := Scalar.indexCast v106
  let c0_58 : Index := 0#32
  ![v107.toNat, 0]
def k0_off12 (k0_t3 : Fin k0_t3_loop.trips) (c0_i32_60 : BitVec 32) : Fin 2 → Nat :=
  let c0_i32_25 : BitVec 32 := 0#32
  let c1_i32_27 : BitVec 32 := 1#32
  let arg25 : BitVec 32 := Scf.iv c0_i32_25 c1_i32_27 k0_t3
  let c16_i32_59 : BitVec 32 := 16#32
  let v111 : BitVec 32 := Scalar.muli arg25 c16_i32_59
  let v112 : BitVec 32 := Scalar.addi v111 c0_i32_60
  let v113 : Index := Scalar.indexCast v112
  let c16_61 : Index := 16#32
  ![v113.toNat, 16]
def k0_off13 (k0_t3 : Fin k0_t3_loop.trips) (c0_i32_63 : BitVec 32) : Fin 2 → Nat :=
  let c0_i32_25 : BitVec 32 := 0#32
  let c1_i32_27 : BitVec 32 := 1#32
  let arg25 : BitVec 32 := Scf.iv c0_i32_25 c1_i32_27 k0_t3
  let c16_i32_62 : BitVec 32 := 16#32
  let v117 : BitVec 32 := Scalar.muli arg25 c16_i32_62
  let v118 : BitVec 32 := Scalar.addi v117 c0_i32_63
  let v119 : Index := Scalar.indexCast v118
  let c32_64 : Index := 32#32
  ![v119.toNat, 32]
def k0_off14 (k0_t3 : Fin k0_t3_loop.trips) (c0_i32_66 : BitVec 32) : Fin 2 → Nat :=
  let c0_i32_25 : BitVec 32 := 0#32
  let c1_i32_27 : BitVec 32 := 1#32
  let arg25 : BitVec 32 := Scf.iv c0_i32_25 c1_i32_27 k0_t3
  let c16_i32_65 : BitVec 32 := 16#32
  let v123 : BitVec 32 := Scalar.muli arg25 c16_i32_65
  let v124 : BitVec 32 := Scalar.addi v123 c0_i32_66
  let v125 : Index := Scalar.indexCast v124
  let c48_67 : Index := 48#32
  ![v125.toNat, 48]
def k0_cond2 (k0_t1 : Fin k0_t1_loop.trips) : BitVec 1 :=
  let c0_i32_8 : BitVec 32 := 0#32
  let c1_i32 : BitVec 32 := 1#32
  let arg16 : BitVec 32 := Scf.iv c0_i32_8 c1_i32 k0_t1
  let c4_i32_20 : BitVec 32 := 4#32
  let v55 : BitVec 32 := Scalar.muli arg16 c4_i32_20
  let c1_i32_21 : BitVec 32 := 1#32
  let v56 : BitVec 32 := Scalar.addi v55 c1_i32_21
  let c4_i32_29 : BitVec 32 := 4#32
  let v65 : BitVec 32 := Scalar.addi v56 c4_i32_29
  let c16_i32_30 : BitVec 32 := 16#32
  let v66 : BitVec 1 := Scalar.cmpi .slt v65 c16_i32_30
  let v67 : BitVec 32 := Scalar.extui v66
  let c0_i32_31 : BitVec 32 := 0#32
  let v68 : BitVec 1 := Scalar.cmpi .ne v67 c0_i32_31
  v68

def k0_off15 (i : grid0.Coords) (k0_t1 : Fin k0_t1_loop.trips) : Fin 3 → Nat :=
  let arg1 : BitVec 32 := BitVec.ofNat 32 (i 1).val
  let c61440_i32 : BitVec 32 := 61440#32
  let arg0 : BitVec 32 := BitVec.ofNat 32 (i 0).val
  let c2048_i32 : BitVec 32 := 2048#32
  let v0 : BitVec 32 := Scalar.muli arg0 c2048_i32
  let v1 : BitVec 32 := Scalar.addi c61440_i32 v0
  let c0_i32_8 : BitVec 32 := 0#32
  let c1_i32 : BitVec 32 := 1#32
  let arg16 : BitVec 32 := Scf.iv c0_i32_8 c1_i32 k0_t1
  let c4_i32_20 : BitVec 32 := 4#32
  let v55 : BitVec 32 := Scalar.muli arg16 c4_i32_20
  let c1_i32_21 : BitVec 32 := 1#32
  let v56 : BitVec 32 := Scalar.addi v55 c1_i32_21
  let c4_i32_54 : BitVec 32 := 4#32
  let v97 : BitVec 32 := Scalar.addi v56 c4_i32_54
  let c128_i32_55 : BitVec 32 := 128#32
  let v98 : BitVec 32 := Scalar.muli v97 c128_i32_55
  let v99 : BitVec 32 := Scalar.addi v1 v98
  let c0_i32_56 : BitVec 32 := 0#32
  ![arg1.toNat, v99.toNat, 0]
@[reducible] def k0_t4_loop : Scf.Loop 32 :=
  let c0_i32_36 : BitVec 32 := 0#32
  let c8_i32_37 : BitVec 32 := 8#32
  let v77 : BitVec 32 := Scalar.addi c0_i32_36 c8_i32_37
  let c1_i32_38 : BitVec 32 := 1#32
  ⟨c0_i32_36, v77, c1_i32_38⟩
def k0_off16 (k0_t1 : Fin k0_t1_loop.trips) (k0_t4 : Fin k0_t4_loop.trips) : Fin 1 → Nat :=
  let c0_i32_8 : BitVec 32 := 0#32
  let c1_i32 : BitVec 32 := 1#32
  let arg16 : BitVec 32 := Scf.iv c0_i32_8 c1_i32 k0_t1
  let c4_i32_32 : BitVec 32 := 4#32
  let v69 : BitVec 32 := Scalar.muli arg16 c4_i32_32
  let c2_i32 : BitVec 32 := 2#32
  let v70 : BitVec 32 := Scalar.addi v69 c2_i32
  let c128_i32_54 : BitVec 32 := 128#32
  let v97 : BitVec 32 := Scalar.muli v70 c128_i32_54
  let c0_i32_36 : BitVec 32 := 0#32
  let c1_i32_38 : BitVec 32 := 1#32
  let arg25 : BitVec 32 := Scf.iv c0_i32_36 c1_i32_38 k0_t4
  let c16_i32_55 : BitVec 32 := 16#32
  let v98 : BitVec 32 := Scalar.muli arg25 c16_i32_55
  let v99 : BitVec 32 := Scalar.addi v97 v98
  let v100 : Index := Scalar.indexCast v99
  ![v100.toNat]
def k0_off17 (k0_t4 : Fin k0_t4_loop.trips) (c0_i32_57 : BitVec 32) : Fin 2 → Nat :=
  let c0_i32_36 : BitVec 32 := 0#32
  let c1_i32_38 : BitVec 32 := 1#32
  let arg25 : BitVec 32 := Scf.iv c0_i32_36 c1_i32_38 k0_t4
  let c16_i32_56 : BitVec 32 := 16#32
  let v105 : BitVec 32 := Scalar.muli arg25 c16_i32_56
  let v106 : BitVec 32 := Scalar.addi v105 c0_i32_57
  let v107 : Index := Scalar.indexCast v106
  let c0_58 : Index := 0#32
  ![v107.toNat, 0]
def k0_off18 (k0_t4 : Fin k0_t4_loop.trips) (c0_i32_60 : BitVec 32) : Fin 2 → Nat :=
  let c0_i32_36 : BitVec 32 := 0#32
  let c1_i32_38 : BitVec 32 := 1#32
  let arg25 : BitVec 32 := Scf.iv c0_i32_36 c1_i32_38 k0_t4
  let c16_i32_59 : BitVec 32 := 16#32
  let v111 : BitVec 32 := Scalar.muli arg25 c16_i32_59
  let v112 : BitVec 32 := Scalar.addi v111 c0_i32_60
  let v113 : Index := Scalar.indexCast v112
  let c16_61 : Index := 16#32
  ![v113.toNat, 16]
def k0_off19 (k0_t4 : Fin k0_t4_loop.trips) (c0_i32_63 : BitVec 32) : Fin 2 → Nat :=
  let c0_i32_36 : BitVec 32 := 0#32
  let c1_i32_38 : BitVec 32 := 1#32
  let arg25 : BitVec 32 := Scf.iv c0_i32_36 c1_i32_38 k0_t4
  let c16_i32_62 : BitVec 32 := 16#32
  let v117 : BitVec 32 := Scalar.muli arg25 c16_i32_62
  let v118 : BitVec 32 := Scalar.addi v117 c0_i32_63
  let v119 : Index := Scalar.indexCast v118
  let c32_64 : Index := 32#32
  ![v119.toNat, 32]
def k0_off20 (k0_t4 : Fin k0_t4_loop.trips) (c0_i32_66 : BitVec 32) : Fin 2 → Nat :=
  let c0_i32_36 : BitVec 32 := 0#32
  let c1_i32_38 : BitVec 32 := 1#32
  let arg25 : BitVec 32 := Scf.iv c0_i32_36 c1_i32_38 k0_t4
  let c16_i32_65 : BitVec 32 := 16#32
  let v123 : BitVec 32 := Scalar.muli arg25 c16_i32_65
  let v124 : BitVec 32 := Scalar.addi v123 c0_i32_66
  let v125 : Index := Scalar.indexCast v124
  let c48_67 : Index := 48#32
  ![v125.toNat, 48]
def k0_cond3 (k0_t1 : Fin k0_t1_loop.trips) : BitVec 1 :=
  let c0_i32_8 : BitVec 32 := 0#32
  let c1_i32 : BitVec 32 := 1#32
  let arg16 : BitVec 32 := Scf.iv c0_i32_8 c1_i32 k0_t1
  let c4_i32_32 : BitVec 32 := 4#32
  let v69 : BitVec 32 := Scalar.muli arg16 c4_i32_32
  let c2_i32 : BitVec 32 := 2#32
  let v70 : BitVec 32 := Scalar.addi v69 c2_i32
  let c4_i32_40 : BitVec 32 := 4#32
  let v79 : BitVec 32 := Scalar.addi v70 c4_i32_40
  let c16_i32_41 : BitVec 32 := 16#32
  let v80 : BitVec 1 := Scalar.cmpi .slt v79 c16_i32_41
  let v81 : BitVec 32 := Scalar.extui v80
  let c0_i32_42 : BitVec 32 := 0#32
  let v82 : BitVec 1 := Scalar.cmpi .ne v81 c0_i32_42
  v82

def k0_off21 (i : grid0.Coords) (k0_t1 : Fin k0_t1_loop.trips) : Fin 3 → Nat :=
  let arg1 : BitVec 32 := BitVec.ofNat 32 (i 1).val
  let c61440_i32 : BitVec 32 := 61440#32
  let arg0 : BitVec 32 := BitVec.ofNat 32 (i 0).val
  let c2048_i32 : BitVec 32 := 2048#32
  let v0 : BitVec 32 := Scalar.muli arg0 c2048_i32
  let v1 : BitVec 32 := Scalar.addi c61440_i32 v0
  let c0_i32_8 : BitVec 32 := 0#32
  let c1_i32 : BitVec 32 := 1#32
  let arg16 : BitVec 32 := Scf.iv c0_i32_8 c1_i32 k0_t1
  let c4_i32_32 : BitVec 32 := 4#32
  let v69 : BitVec 32 := Scalar.muli arg16 c4_i32_32
  let c2_i32 : BitVec 32 := 2#32
  let v70 : BitVec 32 := Scalar.addi v69 c2_i32
  let c4_i32_54 : BitVec 32 := 4#32
  let v97 : BitVec 32 := Scalar.addi v70 c4_i32_54
  let c128_i32_55 : BitVec 32 := 128#32
  let v98 : BitVec 32 := Scalar.muli v97 c128_i32_55
  let v99 : BitVec 32 := Scalar.addi v1 v98
  let c0_i32_56 : BitVec 32 := 0#32
  ![arg1.toNat, v99.toNat, 0]
@[reducible] def k0_t5_loop : Scf.Loop 32 :=
  let c0_i32_47 : BitVec 32 := 0#32
  let c8_i32_48 : BitVec 32 := 8#32
  let v91 : BitVec 32 := Scalar.addi c0_i32_47 c8_i32_48
  let c1_i32_49 : BitVec 32 := 1#32
  ⟨c0_i32_47, v91, c1_i32_49⟩
def k0_off22 (k0_t1 : Fin k0_t1_loop.trips) (k0_t5 : Fin k0_t5_loop.trips) : Fin 1 → Nat :=
  let c0_i32_8 : BitVec 32 := 0#32
  let c1_i32 : BitVec 32 := 1#32
  let arg16 : BitVec 32 := Scf.iv c0_i32_8 c1_i32 k0_t1
  let c4_i32_43 : BitVec 32 := 4#32
  let v83 : BitVec 32 := Scalar.muli arg16 c4_i32_43
  let c3_i32 : BitVec 32 := 3#32
  let v84 : BitVec 32 := Scalar.addi v83 c3_i32
  let c128_i32_54 : BitVec 32 := 128#32
  let v97 : BitVec 32 := Scalar.muli v84 c128_i32_54
  let c0_i32_47 : BitVec 32 := 0#32
  let c1_i32_49 : BitVec 32 := 1#32
  let arg25 : BitVec 32 := Scf.iv c0_i32_47 c1_i32_49 k0_t5
  let c16_i32_55 : BitVec 32 := 16#32
  let v98 : BitVec 32 := Scalar.muli arg25 c16_i32_55
  let v99 : BitVec 32 := Scalar.addi v97 v98
  let v100 : Index := Scalar.indexCast v99
  ![v100.toNat]
def k0_off23 (k0_t5 : Fin k0_t5_loop.trips) (c0_i32_57 : BitVec 32) : Fin 2 → Nat :=
  let c0_i32_47 : BitVec 32 := 0#32
  let c1_i32_49 : BitVec 32 := 1#32
  let arg25 : BitVec 32 := Scf.iv c0_i32_47 c1_i32_49 k0_t5
  let c16_i32_56 : BitVec 32 := 16#32
  let v105 : BitVec 32 := Scalar.muli arg25 c16_i32_56
  let v106 : BitVec 32 := Scalar.addi v105 c0_i32_57
  let v107 : Index := Scalar.indexCast v106
  let c0_58 : Index := 0#32
  ![v107.toNat, 0]
def k0_off24 (k0_t5 : Fin k0_t5_loop.trips) (c0_i32_60 : BitVec 32) : Fin 2 → Nat :=
  let c0_i32_47 : BitVec 32 := 0#32
  let c1_i32_49 : BitVec 32 := 1#32
  let arg25 : BitVec 32 := Scf.iv c0_i32_47 c1_i32_49 k0_t5
  let c16_i32_59 : BitVec 32 := 16#32
  let v111 : BitVec 32 := Scalar.muli arg25 c16_i32_59
  let v112 : BitVec 32 := Scalar.addi v111 c0_i32_60
  let v113 : Index := Scalar.indexCast v112
  let c16_61 : Index := 16#32
  ![v113.toNat, 16]
def k0_off25 (k0_t5 : Fin k0_t5_loop.trips) (c0_i32_63 : BitVec 32) : Fin 2 → Nat :=
  let c0_i32_47 : BitVec 32 := 0#32
  let c1_i32_49 : BitVec 32 := 1#32
  let arg25 : BitVec 32 := Scf.iv c0_i32_47 c1_i32_49 k0_t5
  let c16_i32_62 : BitVec 32 := 16#32
  let v117 : BitVec 32 := Scalar.muli arg25 c16_i32_62
  let v118 : BitVec 32 := Scalar.addi v117 c0_i32_63
  let v119 : Index := Scalar.indexCast v118
  let c32_64 : Index := 32#32
  ![v119.toNat, 32]
def k0_off26 (k0_t5 : Fin k0_t5_loop.trips) (c0_i32_66 : BitVec 32) : Fin 2 → Nat :=
  let c0_i32_47 : BitVec 32 := 0#32
  let c1_i32_49 : BitVec 32 := 1#32
  let arg25 : BitVec 32 := Scf.iv c0_i32_47 c1_i32_49 k0_t5
  let c16_i32_65 : BitVec 32 := 16#32
  let v123 : BitVec 32 := Scalar.muli arg25 c16_i32_65
  let v124 : BitVec 32 := Scalar.addi v123 c0_i32_66
  let v125 : Index := Scalar.indexCast v124
  let c48_67 : Index := 48#32
  ![v125.toNat, 48]
def k0_cond4 (k0_t1 : Fin k0_t1_loop.trips) : BitVec 1 :=
  let c0_i32_8 : BitVec 32 := 0#32
  let c1_i32 : BitVec 32 := 1#32
  let arg16 : BitVec 32 := Scf.iv c0_i32_8 c1_i32 k0_t1
  let c4_i32_43 : BitVec 32 := 4#32
  let v83 : BitVec 32 := Scalar.muli arg16 c4_i32_43
  let c3_i32 : BitVec 32 := 3#32
  let v84 : BitVec 32 := Scalar.addi v83 c3_i32
  let c4_i32_51 : BitVec 32 := 4#32
  let v93 : BitVec 32 := Scalar.addi v84 c4_i32_51
  let c16_i32_52 : BitVec 32 := 16#32
  let v94 : BitVec 1 := Scalar.cmpi .slt v93 c16_i32_52
  let v95 : BitVec 32 := Scalar.extui v94
  let c0_i32_53 : BitVec 32 := 0#32
  let v96 : BitVec 1 := Scalar.cmpi .ne v95 c0_i32_53
  v96

def k0_off27 (i : grid0.Coords) (k0_t1 : Fin k0_t1_loop.trips) : Fin 3 → Nat :=
  let arg1 : BitVec 32 := BitVec.ofNat 32 (i 1).val
  let c61440_i32 : BitVec 32 := 61440#32
  let arg0 : BitVec 32 := BitVec.ofNat 32 (i 0).val
  let c2048_i32 : BitVec 32 := 2048#32
  let v0 : BitVec 32 := Scalar.muli arg0 c2048_i32
  let v1 : BitVec 32 := Scalar.addi c61440_i32 v0
  let c0_i32_8 : BitVec 32 := 0#32
  let c1_i32 : BitVec 32 := 1#32
  let arg16 : BitVec 32 := Scf.iv c0_i32_8 c1_i32 k0_t1
  let c4_i32_43 : BitVec 32 := 4#32
  let v83 : BitVec 32 := Scalar.muli arg16 c4_i32_43
  let c3_i32 : BitVec 32 := 3#32
  let v84 : BitVec 32 := Scalar.addi v83 c3_i32
  let c4_i32_54 : BitVec 32 := 4#32
  let v97 : BitVec 32 := Scalar.addi v84 c4_i32_54
  let c128_i32_55 : BitVec 32 := 128#32
  let v98 : BitVec 32 := Scalar.muli v97 c128_i32_55
  let v99 : BitVec 32 := Scalar.addi v1 v98
  let c0_i32_56 : BitVec 32 := 0#32
  ![arg1.toNat, v99.toNat, 0]
def k0_off28 (i : grid0.Coords) : Fin 3 → Nat :=
  let arg0 : BitVec 32 := BitVec.ofNat 32 (i 0).val
  let arg1 : BitVec 32 := BitVec.ofNat 32 (i 1).val
  let c0_i32_10_r0 : BitVec 32 := 0#32
  ![arg0.toNat, arg1.toNat, 0]
abbrev grid1 : Pipeline.Grid := ⟨2, ![16, 15], ![false, false]⟩

def cc1_transform_0 (i : grid1.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.muli arg0 c15_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x65536 : Shape := ⟨2, ![16, 65536]⟩
abbrev S16x65536x64 : Shape := ⟨3, ![16, 65536, 64]⟩
abbrev S16x1x65536 : Shape := ⟨3, ![16, 1, 65536]⟩
abbrev S16x1x64 : Shape := ⟨3, ![16, 1, 64]⟩
abbrev S16x1x1x64 : Shape := ⟨4, ![16, 1, 1, 64]⟩

abbrev nBuf : Space → Nat
  | .hbm => 5
  | .vmem => 0
  | .smem => 0
  | _ => 0

abbrev bufTy : (tb : Table) → Fin (tcTables nBuf tb) → BufTy
  | .hbm, ⟨0, _⟩ => ⟨S16x65536, .f32⟩
  | .hbm, ⟨1, _⟩ => ⟨S16x65536x64, .f32⟩
  | .hbm, ⟨2, _⟩ => ⟨S16x1x65536, .f32⟩
  | .hbm, ⟨3, _⟩ => ⟨S16x1x64, .f32⟩
  | .hbm, ⟨4, _⟩ => ⟨S16x1x1x64, .f32⟩
  | _, _ => ⟨S16x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Sc.Common.lean ====
/-
  What the proof of the program's run shares: the program as the launch theorem for SparseCore programs sees it, the
  ghost state, the buffers of a tile's task, and the vectors the task computes with.
-/
module

public import proofs.«01_k».proof.Defs
public import Idealize.ShloMosaic.Lib.SparseCore.Quiescent
public import Idealize.ShloMosaic.Lib.SparseCore.Ops
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × UP × Counters

local notation "𝕄" => MT nD τ sig (HIx 1) (Elt F) ℕ UU ℕ

/-! ## The task's buffers and its thread -/

abbrev wV : Memref sig .scVector .hbm S16x65536 .f32 := Memref.whole main_arg0_scv
abbrev mV : Memref sig .scVector .hbm S16x65536x64 .f32 := Memref.whole main_arg1_scv
abbrev oV : Memref sig .scVector .hbm S2x16x64 .f32 := Memref.whole main_v0_scv
abbrev b0V : Memref sig .scVector .vmem S128x64 .f32 := Memref.whole cc0_scratch0
abbrev b1V : Memref sig .scVector .vmem S128x64 .f32 := Memref.whole cc0_scratch1
abbrev b2V : Memref sig .scVector .vmem S128x64 .f32 := Memref.whole cc0_scratch2
abbrev b3V : Memref sig .scVector .vmem S128x64 .f32 := Memref.whole cc0_scratch3
abbrev waV : Memref sig .scVector .vmem S2048 .f32 := Memref.whole cc0_scratch4
abbrev acV : Memref sig .scVector .vmem S64 .f32 := Memref.whole cc0_scratch5

abbrev cV (L : grid0.Coords) : Fin τ.nSC := (L 0).castLE hcore0
abbrev jV (L : grid0.Coords) : Fin τ.nSub := (L 1).castLE hsub0

end Cert.KernelIdeal.Sc

end
-- ==== Proof.Tc.Body.lean ====
/-
  One grid point of the TensorCore call: the block of the result it accumulates into, before and after.
-/
module

public import proofs.«01_k».proof.Proof.Sc.Common
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.FrameBody
public import Idealize.ShloMosaic.Lib.Pipeline.Value
public import Idealize.ShloMosaic.Lib.Ring
public import Idealize.ShloMosaic.Lib.WordCmp

@[expose] public section

set_option maxRecDepth 16384

noncomputable section

namespace Cert.KernelIdeal.Tc

open Cert.KernelIdeal Cert.KernelIdeal.Gen Cert.KernelIdeal.Sc

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The body clears its result block first at the points where the second grid coordinate is zero. -/
abbrev first (i : grid1.Coords) : Prop := (Scalar.cmpi .ne (Scalar.extui (Scalar.cmpi .eq (BitVec.ofNat 32 (i 1).val) 0#32)) 0#32) = 1#1

/-- These are the points ≡ 0 (mod 15). -/
theorem first_iff (t : Fin cfg1.N) : first (grid1.coords t) ↔ t.val % 15 = 0 := by
  have ht : t.val < 240 := Nat.lt_of_lt_of_eq t.isLt N_1
  have e1 : (grid1.coords t 1).val = t.val / 1 % 15 := Pipeline.Grid.coords_val t 1 (by decide) rfl
  simp only [first, e1]
  word_cmp

theorem zero3 : (![0, 0, 0] : Fin 3 → Nat) = fun _ => 0 := funext fun a => by fin_cases a <;> rfl

/-- At a first point: whatever the result block held, it ends at this point's products. -/
theorem body_first (c : Dev nD) (i : grid1.Coords) (a2 : Memref sig .tc .vmem S1x1x4096 .f32) (h2 : a2.IsWhole)
    (a3 : Memref sig .tc .vmem S1x4096x64 .f32) (h3 : a3.IsWhole) (a4 : Memref sig .tc .vmem S1x1x64 .f32) (h4 : a4.IsWhole)
    (hc : first i) (x0 : Vec F S1x1x4096 .f32) (x1 : Vec F S1x4096x64 .f32) :
    iprop(owns (c : Thread nD τ) a2 fullShare x0 ∗ owns (c : Thread nD τ) a3 fullShare x1 ∗ (∃ d, owns (c : Thread nD τ) a4 fullShare d))
      ⊢ wp frame (wpE (defs₀ (F := F)) 𝒱₀ c none) Set.univ (cc1__tc_body i a2 h2 a3 h3 a4 h4)
          fun _ => (iprop(owns (c : Thread nD τ) a2 fullShare x0 ∗ owns (c : Thread nD τ) a3 fullShare x1
            ∗ owns (c : Thread nD τ) a4 fullShare (k1_pay2 (k1_pay1 (F := F)) x0 x1)) : sProp 𝕄) := by
  simp only [cc1__tc_body_eq_skeleton]; unfold cc1__tc_body_skel
  unfold owns
  iintro ⟨⟨%f0, %hf0, H0⟩, ⟨%f1, %hf1, H1⟩, ⟨%d2, %f2, -, H2⟩⟩
  obtain rfl := h2.eq_unread hf0; obtain rfl := h3.eq_unread hf1
  sl_exec (disch := first | sl_exact hc)
  sl_step
  isplitl [H0]
  · iexists _; isplitr; · ipureintro; exact h2.read_unread _
    iexact H0
  isplitl [H1]
  · iexists _; isplitr; · ipureintro; exact h3.read_unread _
    iexact H1
  iexists _; isplitr; swap; · iexact H2
  ipureintro
  rw [View.read_writes_eq_canon _ _ _ (fun y => View.cover_of_tiledL _ S1x1x64.size (by sl_kernel_rfl) y)]
  sl_unfold_words
  rw [View.canon_cons_unit_zero (S := S1x1x64) zero3, View.readCov_unit_zero (S := S1x1x64) _ zero3]
  simp only [View.readAt_eq_ld, h2.read_unread, h3.read_unread, View.ld_unit_zero (S := S1x4096x64) zero3, View.ld_unit_zero (S := S1x1x4096) zero3]

/-- At a later point: this point's products are added to what the result block held. -/
theorem body_later (c : Dev nD) (i : grid1.Coords) (a2 : Memref sig .tc .vmem S1x1x4096 .f32) (h2 : a2.IsWhole)
    (a3 : Memref sig .tc .vmem S1x4096x64 .f32) (h3 : a3.IsWhole) (a4 : Memref sig .tc .vmem S1x1x64 .f32) (h4 : a4.IsWhole)
    (hc : ¬first i) (x0 : Vec F S1x1x4096 .f32) (x1 : Vec F S1x4096x64 .f32) (x2 : Vec F S1x1x64 .f32) :
    iprop(owns (c : Thread nD τ) a2 fullShare x0 ∗ owns (c : Thread nD τ) a3 fullShare x1 ∗ owns (c : Thread nD τ) a4 fullShare x2)
      ⊢ wp frame (wpE (defs₀ (F := F)) 𝒱₀ c none) Set.univ (cc1__tc_body i a2 h2 a3 h3 a4 h4)
          fun _ => (iprop(owns (c : Thread nD τ) a2 fullShare x0 ∗ owns (c : Thread nD τ) a3 fullShare x1
            ∗ owns (c : Thread nD τ) a4 fullShare (k1_pay2 x2 x0 x1)) : sProp 𝕄) := by
  simp only [cc1__tc_body_eq_skeleton]; unfold cc1__tc_body_skel
  unfold owns
  iintro ⟨⟨%f0, %hf0, H0⟩, ⟨%f1, %hf1, H1⟩, ⟨%f2, %hf2, H2⟩⟩
  obtain rfl := h2.eq_unread hf0; obtain rfl := h3.eq_unread hf1; obtain rfl := h4.eq_unread hf2
  sl_exec (disch := first | sl_exact hc)
  sl_step
  isplitl [H0]
  · iexists _; isplitr; · ipureintro; exact h2.read_unread _
    iexact H0
  isplitl [H1]
  · iexists _; isplitr; · ipureintro; exact h3.read_unread _
    iexact H1
  iexists _; isplitr; swap; · iexact H2
  ipureintro
  rw [View.read_writes_eq_canon _ _ _ (fun y => View.cover_of_tiledL _ S1x1x64.size (by sl_kernel_rfl) y)]
  rw [View.canon_unit_zero zero3]
  simp only [View.readAt_eq_ld, h2.read_unread, h3.read_unread, h4.read_unread, View.ld_unit_zero (S := S1x4096x64) zero3, View.ld_unit_zero (S := S1x1x4096) zero3,
    View.ld_unit_zero (S := S1x1x64) zero3]

end Cert.KernelIdeal.Tc

end
-- ==== Proof.Tc.Data.lean ====
/-
  The TensorCore call's grid: what its windows' blocks hold at every point, and what the result array ends at.
-/
module

public import proofs.«01_k».proof.Proof.Tc.Body
public import Idealize.ShloMosaic.Lib.ValueIdxCore

@[expose] public section

set_option maxRecDepth 16384

noncomputable section

namespace Cert.KernelIdeal.Tc

open Cert.KernelIdeal Cert.KernelIdeal.Gen Cert.KernelIdeal.Sc

open Idealize.ShloMosaic Idealize.ShloMosaic.TcCoe Idealize.ShloMosaic.ValueIdx
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

-- The buffers as the call finds them.
variable (V : Dev nD → Valuation τ sig (Elt F))

/-- Window `w`'s block at point `t`, as the call finds its array. -/
def blk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- Point `n`'s products added to `x`. -/
def addPoint (c : Dev nD) (n : ℕ) (x : Vec F S1x1x64 .f32) : Vec F S1x1x64 .f32 :=
  if h : n < cfg1.N then k1_pay2 x (blk V c 0 ⟨n, h⟩) (blk V c 1 ⟨n, h⟩) else x

/-- What the result block holds after point `n`: every row of 15 points starts again from zero. -/
def acc (c : Dev nD) : ℕ → Vec F S1x1x64 .f32
  | 0 => addPoint V c 0 (k1_pay1 (F := F))
  | n + 1 => addPoint V c (n + 1) (if (n + 1) % 15 = 0 then k1_pay1 (F := F) else acc c n)

theorem acc_first (c : Dev nD) (t : Fin cfg1.N) (h : t.val % 15 = 0) :
    acc V c t.val = k1_pay2 (k1_pay1 (F := F)) (blk V c 0 t) (blk V c 1 t) := by
  obtain ⟨n, hn⟩ := t
  cases n with
  | zero => show addPoint V c 0 _ = _; exact dif_pos hn
  | succ n => show addPoint V c (n + 1) (if (n + 1) % 15 = 0 then _ else _) = _; rw [if_pos h]; exact dif_pos hn

theorem acc_later (c : Dev nD) (t : Fin cfg1.N) (h : ¬t.val % 15 = 0) :
    acc V c t.val = k1_pay2 (acc V c (t.val - 1)) (blk V c 0 t) (blk V c 1 t) := by
  obtain ⟨n, hn⟩ := t
  cases n with
  | zero => exact absurd (Nat.zero_mod _) h
  | succ n => show addPoint V c (n + 1) (if (n + 1) % 15 = 0 then _ else _) = _; rw [if_neg h]; exact dif_pos hn

/-- The call's data: its windows' contents at every point; it owes nothing. -/
def dat (c : Dev nD) : Dat τ (Elt F) (HIx 1) ℕ UU ℕ cfg1 c where
  A w := V c (Proc.devRef .tc (Pipeline.arrRef spec1 w))
  after w t := match w with
    | ⟨0, _⟩ => blk V c 0 t
    | ⟨1, _⟩ => blk V c 1 t
    | ⟨2, _⟩ => acc V c t.val
  Φ _ := Pipeline.scopedRest spec1 c
  q _ := fullShare
  owed _ := 0

theorem A_eq (c : Dev nD) (w : Fin cfg1.W) : (dat V c).A w = V c (Proc.devRef .tc (Pipeline.arrRef spec1 w)) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = acc V c t.val := by dsimp only [dat]

/-- Each input's staging buffer holds its block at every point. -/
theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)

/-- Past a row's first point the result's staging buffer holds what the point before left. -/
theorem before_2 (c : Dev nD) (t : Fin cfg1.N) (h : ¬t.val % 15 = 0) (d) : (dat V c).before 2 t d = acc V c (t.val - 1) := by
  have hN : t.val < 240 := lt_of_lt_of_eq t.isLt N_1
  rw [Dat.before_out_kept _ 2 rfl t (by omega) (Bool.eq_false_iff.mpr fun h' => by have := (flush1_2 _).mp h'; dsimp only at this; omega)
    (fun _ => rfl) (fun _ _ => rfl)]
  dsimp only [dat]

/-- The body at any point takes the windows' buffers from what they hold before to what they hold after. -/
theorem body_point (c : Dev nD) (t : Fin cfg1.N) :
    (iprop((dat V c).Φ t.castSucc ∗ (dat V c).owesAt (none : HIx 1) t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d))) : sProp 𝕄)
      ⊢ wp frame (wpE (defs₀ (F := F)) 𝒱₀ c none) Set.univ (bodyAt1 t) fun _ =>
        iprop((dat V c).Φ t.succ ∗ (dat V c).owesAt (none : HIx 1) t.succ
          ∗ owns (c : Thread nD τ) (st1_0 t) fullShare ((dat V c).after 0 t)
          ∗ owns (c : Thread nD τ) (st1_1 t) fullShare ((dat V c).after 1 t)
          ∗ owns (c : Thread nD τ) (st1_2 t) fullShare ((dat V c).after 2 t)) := by
  simp only [before_0, before_1]
  rw [show (dat V c).Φ t.succ = (dat V c).Φ t.castSucc from rfl,
    show (dat V c).owesAt (none : HIx 1) t.succ = (dat V c).owesAt none t.castSucc from rfl, after_0, after_1, after_2]
  iintro ⟨HΦ, Ho, ⟨%d0, H0⟩, ⟨%d1, H1⟩, ⟨%d2, H2⟩⟩
  by_cases h : t.val % 15 = 0
  · rw [acc_first V c t h]
    iapply (wp_wand_r frame (wpE (defs₀ (F := F)) 𝒱₀ (c : Thread nD τ) none) Set.univ)
    isplitl [H0 H1 H2]
    · iapply (body_first c (grid1.coords t) _ _ _ _ _ _ ((first_iff t).mpr h) (blk V c 0 t) (blk V c 1 t))
      isplitl [H0]; · iexact H0
      isplitl [H1]; · iexact H1
      iexists _; iexact H2
    iintro %u ⟨H0, H1, H2⟩
    isplitl [HΦ]; · iexact HΦ
    isplitl [Ho]; · iexact Ho
    isplitl [H0]; · iexact H0
    isplitl [H1]; · iexact H1
    iexact H2
  · rw [acc_later V c t h, before_2 V c t h]
    iapply (wp_wand_r frame (wpE (defs₀ (F := F)) 𝒱₀ (c : Thread nD τ) none) Set.univ)
    isplitl [H0 H1 H2]
    · iapply (body_later c (grid1.coords t) _ _ _ _ _ _ (fun h' => h ((first_iff t).mp h')) (blk V c 0 t) (blk V c 1 t) (acc V c (t.val - 1)))
      isplitl [H0]; · iexact H0
      isplitl [H1]; · iexact H1
      iexact H2
    iintro %u ⟨H0, H1, H2⟩
    isplitl [HΦ]; · iexact HΦ
    isplitl [Ho]; · iexact Ho
    isplitl [H0]; · iexact H0
    isplitl [H1]; · iexact H1
    iexact H2

theorem defs₀_row (t : Fin cfg1.N) : defs₀ (F := F) .tc cfg1.body (cfg1.bodyArgs t (cfg1.slots t)) = bodyAt1 t := rfl

theorem obligation (c : Dev nD) : BodyObligation (dat V c) (defs₀ (F := F)) 𝒱₀ (none : HIx 1) Set.univ := fun t => by
  rw [bigSep_W1, bigSep_W1, defs₀_row]
  exact triple_restated (body_point V c t) rfl .rfl fun _ => .rfl

/-! ## The result array at the end -/

/-- Element `(b, 0, v)` of the result: the sum after the last point of row `b`. -/
def tcOut (c : Dev nD) : Vec F S16x1x64 .f32 := fun i => acc V c (15 * (i 0).val + 14) (ix3 0 0 (i 2))

/-- The printed index map of the result's window. -/
theorem index_2 : ∀ t : Fin cfg1.N, win1_2.index t (0 : Fin 3) = t.val / 15 ∧ win1_2.index t (1 : Fin 3) = 0 ∧ win1_2.index t (2 : Fin 3) = 0 :=
  (by decide +kernel : ∀ t : Fin grid1.N, _)

theorem flushed_2 (c : Dev nD) (t : Fin cfg1.N) (hf : (cfg1.win 2).flush t = true) :
    (dat V c).flushed 2 t = ((cfg1.win 2).blk t).view.read (Elt F) (tcOut V c) := by
  show (cfg1.win 2).cut (grid1.coords t) ((dat V c).after 2 t) = _
  rw [after_2]
  have hm : t.val % 15 = 14 := (flush1_2 t).mp hf
  obtain ⟨e0, e1, e2⟩ := index_2 t
  funext y
  have hy0 : (y 0).val < 1 := (y 0).isLt
  have hy1 : (y 1).val < 1 := (y 1).isLt
  have hb0 : (((cfg1.win 2).blk t).view.emb y 0).val = win1_2.index t (0 : Fin 3) * 1 + 1 * (y 0).val := rfl
  have hb2 : (((cfg1.win 2).blk t).view.emb y 2).val = win1_2.index t (2 : Fin 3) * 64 + 1 * (y 2).val := rfl
  show acc V c t.val ((cfg1.win 2).xinj (grid1.coords t) y)
    = acc V c (15 * (((cfg1.win 2).blk t).view.emb y 0).val + 14) (ix3 0 0 (((cfg1.win 2).blk t).view.emb y 2))
  have hn : 15 * (((cfg1.win 2).blk t).view.emb y 0).val + 14 = t.val := by rw [hb0, e0]; omega
  have hi : (cfg1.win 2).xinj (grid1.coords t) y = (ix3 0 0 (((cfg1.win 2).blk t).view.emb y 2) : S1x1x64.Idx) := by
    funext a; apply Fin.ext
    match a with
    | ⟨0, _⟩ => show (y 0).val = 0; omega
    | ⟨1, _⟩ => show (y 1).val = 0; omega
    | ⟨2, _⟩ => show (y 2).val = (((cfg1.win 2).blk t).view.emb y 2).val; rw [hb2, e2]; omega
  rw [hn, hi]

theorem mem_blk_2 (t : Fin cfg1.N) (i : S16x1x64.Idx) :
    i ∈ ((cfg1.win 2).blk t).view.set ↔ ∀ a : Fin 3, win1_2.index t a * S1x1x64.size a ≤ (i a).val ∧ (i a).val < win1_2.index t a * S1x1x64.size a + S1x1x64.size a := by
  show i ∈ ((View.whole main_v3).slice (win1_2.rect t)).set ↔ _
  rw [View.set_slice_whole, Rect.mem_set_unit]
  exact Iff.rfl

/-- The call leaves its result array at `tcOut`: the blocks written back tile it. -/
theorem final_2 (c : Dev nD) : (dat V c).arrAt 2 cfg1.N = tcOut V c :=
  (dat V c).arrAt_eq_of_cover 2 _ (flushed_2 V c) fun (i : S16x1x64.Idx) => by
    have h0 : (i 0).val < 16 := (i 0).isLt
    have h1 : (i 1).val < 1 := (i 1).isLt
    have h2 : (i 2).val < 64 := (i 2).isLt
    have ht : 15 * (i 0).val + 14 < cfg1.N := by rw [show cfg1.N = 240 from N_1]; omega
    refine ⟨⟨15 * (i 0).val + 14, ht⟩, (flush1_2 _).mpr (by show (15 * (i 0).val + 14) % 15 = 14; omega), (mem_blk_2 _ i).mpr fun a => ?_⟩
    obtain ⟨e0, e1, e2⟩ := index_2 ⟨15 * (i 0).val + 14, ht⟩
    have e0' : win1_2.index ⟨15 * (i 0).val + 14, ht⟩ (0 : Fin 3) = (i 0).val := by rw [e0]; show (15 * (i 0).val + 14) / 15 = _; omega
    match a with
    | ⟨0, _⟩ => show win1_2.index _ (0 : Fin 3) * 1 ≤ (i 0).val ∧ (i 0).val < win1_2.index _ (0 : Fin 3) * 1 + 1; rw [e0']; omega
    | ⟨1, _⟩ => show win1_2.index _ (1 : Fin 3) * 1 ≤ (i 1).val ∧ (i 1).val < win1_2.index _ (1 : Fin 3) * 1 + 1; rw [e1]; omega
    | ⟨2, _⟩ => show win1_2.index _ (2 : Fin 3) * 64 ≤ (i 2).val ∧ (i 2).val < win1_2.index _ (2 : Fin 3) * 64 + 64; rw [e2]; omega

end Cert.KernelIdeal.Tc

end
-- ==== Proof.Sc.Values.lean ====
/-
  The vectors a tile's task computes with: eight registers of sixteen lanes, the products of the even rows summed in the
  first four and those of the odd rows in the other four, one register for each quarter of the 64 columns.
-/
module

public import proofs.«01_k».proof.Proof.Sc.Common
public import Idealize.ShloMosaic.Lib.Pipeline.Value
public import Idealize.ShloMosaic.Lib.ValueIdxCore

@[expose] public section

noncomputable section

namespace Cert.KernelIdeal.Sc

open Cert.KernelIdeal Cert.KernelIdeal.Gen
open Idealize.ShloMosaic Idealize.ShloMosaic.ValueIdx

variable {F : FTy → Type} [FloatOps F]

abbrev V16 (F : FTy → Type) : Type := FVec F S16 .f32
abbrev Regs (F : FTy → Type) : Type := V16 F × V16 F × V16 F × V16 F × V16 F × V16 F × V16 F × V16 F

/-- The float zero the registers start from. -/
def zf : F .f32 := Scalar.ofBits .f32 0x00000000#32

/-- Row `base + r` of batch `b`: `w`'s entry times column `v` of `memory`'s row. -/
def prod (w : S16x65536.Idx → F .f32) (mem : S16x65536x64.Idx → F .f32) (b : Fin 16) (base r v : ℕ) : F .f32 :=
  FloatOps.mulf (w (ix2 b (Fin.ofNat 65536 (base + r)))) (mem (ix3 b (Fin.ofNat 65536 (base + r)) (Fin.ofNat 64 v)))

/-- `x 0, …, x (n - 1)` added in order to zero. -/
def chain (x : ℕ → F .f32) : ℕ → F .f32
  | 0 => zf
  | n + 1 => FloatOps.addf (chain x n) (x n)

/-- The register of parity `p` and column quarter `j` after `n` rows of that parity. -/
def lanes (x : ℕ → ℕ → F .f32) (p j n : ℕ) : V16 F := fun l => chain (fun k => x (2 * k + p) (16 * j + (l 0).val)) n

/-- The eight registers after `n` rows of each parity. -/
def regs (x : ℕ → ℕ → F .f32) (n : ℕ) : Regs F :=
  (lanes x 0 0 n, lanes x 0 1 n, lanes x 0 2 n, lanes x 0 3 n, lanes x 1 0 n, lanes x 1 1 n, lanes x 1 2 n, lanes x 1 3 n)

theorem slices16 (r : Fin 16) : S16.Slices ![r.val] S1 := by revert r; decide

/-- One row's step on one register: lane `r` of `wv`, spread over the lanes, times the loaded piece of the row, added. -/
def mac (wv : Vec F S16 .f32) (r : Fin 16) (acc : V16 F) (ld : Vec F S1x16 .f32) : V16 F :=
  addf acc (mulf (broadcast S16 (extractAt ![0] (extractStridedSlice S1 ![r.val] wv (slices16 r)) inpos_S1_p0)) (shapeCast S16 ld shapeCasts_S1x16_S16))

theorem mac_apply (wv : Vec F S16 .f32) (r : Fin 16) (acc : V16 F) (ld : Vec F S1x16 .f32) (l : Fin 16) :
    mac wv r acc ld (ix1 l) = FloatOps.addf (acc (ix1 l)) (FloatOps.mulf (wv (ix1 r)) (ld (ix2 0 l))) := by
  have h1 : extractAt ![0] (extractStridedSlice S1 ![r.val] wv (slices16 r)) inpos_S1_p0 = wv (ix1 r) := by
    unfold extractAt extractStridedSlice
    congr 1; funext a
    match a with
    | 0 => exact Fin.ext (by simp [ix1])
  have h2 : shapeCast S16 ld shapeCasts_S1x16_S16 (ix1 l) = ld (ix2 0 l) := by
    refine shapeCast_apply _ _ _ _ ?_
    rw [Shape.rowMajor_val_two, Shape.rowMajor_val_one]
    simp [ix1, ix2]
  unfold mac addf mulf broadcast
  rw [h1, h2]

/-- Sixteen rows' step on a register of parity `p`: the eight rows of that parity in order. -/
def bank (wv : Vec F S16 .f32) (ld : Fin 16 → Vec F S1x16 .f32) (p : Fin 2) (acc : V16 F) : V16 F :=
  let s (k : Fin 8) (a : V16 F) : V16 F := mac wv ⟨2 * k.val + p.val, by omega⟩ a (ld ⟨2 * k.val + p.val, by omega⟩)
  s 7 (s 6 (s 5 (s 4 (s 3 (s 2 (s 1 (s 0 acc)))))))

theorem bank_lanes (x : ℕ → ℕ → F .f32) (wv : Vec F S16 .f32) (ld : Fin 16 → Vec F S1x16 .f32) (p : Fin 2) (j n : ℕ)
    (hx : ∀ (r : Fin 16) (l : Fin 16), FloatOps.mulf (wv (ix1 r)) (ld r (ix2 0 l)) = x (2 * n + r.val) (16 * j + l.val)) :
    bank wv ld p (lanes x p.val j n) = lanes x p.val j (n + 8) := by
  funext l'
  obtain ⟨l, rfl⟩ : ∃ l : Fin 16, l' = ix1 l := ⟨l' 0, eq_ix1 l'⟩
  have e (k : ℕ) : 2 * (n + k) + p.val = 2 * n + (2 * k + p.val) := by omega
  have e0 : 2 * n + p.val = 2 * n + (2 * 0 + p.val) := by omega
  simp only [bank, mac_apply]
  simp only [hx]
  simp only [lanes, chain, e]
  rw [e0]
  rfl

/-- Sixteen rows' step on the eight registers. -/
def rowOut (wv : Vec F S16 .f32) (l0 l1 l2 l3 : Fin 16 → Vec F S1x16 .f32) (a : Regs F) : Regs F :=
  (bank wv l0 0 a.1, bank wv l1 0 a.2.1, bank wv l2 0 a.2.2.1, bank wv l3 0 a.2.2.2.1,
    bank wv l0 1 a.2.2.2.2.1, bank wv l1 1 a.2.2.2.2.2.1, bank wv l2 1 a.2.2.2.2.2.2.1, bank wv l3 1 a.2.2.2.2.2.2.2)

/-- A window of sixteen lanes of one row of a 128 × 64 array. -/
def rowAt (f : S128x64.Idx → F .f32) (off : Fin 2 → ℕ) (inb : ∀ a, off a + S1x16.size a ≤ S128x64.size a) : Vec F S1x16 .f32 :=
  fun y => f ((Rect.unit (s := S128x64) off S1x16.size inb).emb y)

/-- Sixteen entries of an array of 2048. -/
def vecAt (f : S2048.Idx → F .f32) (off : Fin 1 → ℕ) (inb : ∀ a, off a + S16.size a ≤ S2048.size a) : Vec F S16 .f32 :=
  fun y => f ((Rect.unit (s := S2048) off S16.size inb).emb y)

theorem rowAt_apply (f : S128x64.Idx → F .f32) (off : Fin 2 → ℕ) (inb : ∀ a, off a + S1x16.size a ≤ S128x64.size a) (a c : ℕ)
    (h : off = ![a, c]) (ha : a < 128) (hc : c + 16 ≤ 64) (l : Fin 16) :
    rowAt f off inb (ix2 0 l) = f (ix2 ⟨a, ha⟩ ⟨c + l.val, by omega⟩) := by
  subst h
  unfold rowAt
  congr 1; funext i
  match i with
  | 0 => exact Fin.ext (by simp [Rect.emb, Rect.unit, ix2])
  | 1 => exact Fin.ext (by simp [Rect.emb, Rect.unit, ix2])

theorem vecAt_apply (f : S2048.Idx → F .f32) (off : Fin 1 → ℕ) (inb : ∀ a, off a + S16.size a ≤ S2048.size a) (a : ℕ)
    (h : off = ![a]) (ha : a + 16 ≤ 2048) (l : Fin 16) :
    vecAt f off inb (ix1 l) = f (ix1 ⟨a + l.val, by omega⟩) := by
  subst h
  unfold vecAt
  congr 1; funext i
  match i with
  | 0 => exact Fin.ext (by simp [Rect.emb, Rect.unit, ix1])

/-- What a buffer of `w` holds: `w`'s row `b` from `base` on. -/
def IsW (w : S16x65536.Idx → F .f32) (b : Fin 16) (base : ℕ) (f : S2048.Idx → F .f32) : Prop :=
  ∀ r : Fin 2048, f (ix1 r) = w (ix2 b (Fin.ofNat 65536 (base + r.val)))

/-- What a buffer of `memory` holds: batch `b`'s rows from `base` on. -/
def IsM (mem : S16x65536x64.Idx → F .f32) (b : Fin 16) (base : ℕ) (f : S128x64.Idx → F .f32) : Prop :=
  ∀ (r : Fin 128) (v : Fin 64), f (ix2 r v) = mem (ix3 b (Fin.ofNat 65536 (base + r.val)) (Fin.ofNat 64 v.val))

/-- Sixteen rows' step from the registers after `n` rows of each parity, on buffers at the launch's contents. -/
theorem rowOut_regs (w : S16x65536.Idx → F .f32) (mem : S16x65536x64.Idx → F .f32) (b : Fin 16) (base c t n : ℕ) (ht : t < 8) (hc : c < 16)
    (hn : n = 64 * c + 8 * t) (fw : S2048.Idx → F .f32) (fb : S128x64.Idx → F .f32) (hw : IsW w b base fw) (hb : IsM mem b (base + 128 * c) fb)
    {ow : Fin 1 → ℕ} (iw : ∀ a, ow a + S16.size a ≤ S2048.size a) (how : ow = ![128 * c + 16 * t])
    {o0 o1 o2 o3 : Fin 16 → Fin 2 → ℕ} (i0 : ∀ r a, o0 r a + S1x16.size a ≤ S128x64.size a) (i1 : ∀ r a, o1 r a + S1x16.size a ≤ S128x64.size a)
    (i2 : ∀ r a, o2 r a + S1x16.size a ≤ S128x64.size a) (i3 : ∀ r a, o3 r a + S1x16.size a ≤ S128x64.size a)
    (h0 : ∀ r, o0 r = ![16 * t + r.val, 0]) (h1 : ∀ r, o1 r = ![16 * t + r.val, 16])
    (h2 : ∀ r, o2 r = ![16 * t + r.val, 32]) (h3 : ∀ r, o3 r = ![16 * t + r.val, 48]) :
    rowOut (vecAt fw ow iw) (fun r => rowAt fb (o0 r) (i0 r)) (fun r => rowAt fb (o1 r) (i1 r)) (fun r => rowAt fb (o2 r) (i2 r))
        (fun r => rowAt fb (o3 r) (i3 r)) (regs (prod w mem b base) n) = regs (prod w mem b base) (n + 8) := by
  have key (j : ℕ) (hj : 16 * j + 16 ≤ 64) (o : Fin 16 → Fin 2 → ℕ) (io : ∀ r a, o r a + S1x16.size a ≤ S128x64.size a)
      (ho : ∀ r, o r = ![16 * t + r.val, 16 * j]) (r l : Fin 16) :
      FloatOps.mulf (vecAt fw ow iw (ix1 r)) (rowAt fb (o r) (io r) (ix2 0 l)) = prod w mem b base (2 * n + r.val) (16 * j + l.val) := by
    rw [vecAt_apply fw ow iw _ how (by omega), rowAt_apply fb (o r) (io r) _ _ (ho r) (by omega) hj, hw, hb]
    unfold prod
    have e1 : base + (128 * c + 16 * t + r.val) = base + (2 * n + r.val) := by omega
    have e2 : base + 128 * c + (16 * t + r.val) = base + (2 * n + r.val) := by omega
    simp only [e1, e2]
  unfold rowOut regs
  simp only
  have b0 := fun p => bank_lanes _ (vecAt fw ow iw) (fun r => rowAt fb (o0 r) (i0 r)) p 0 n (key 0 (by omega) o0 i0 h0)
  have b1 := fun p => bank_lanes _ (vecAt fw ow iw) (fun r => rowAt fb (o1 r) (i1 r)) p 1 n (key 1 (by omega) o1 i1 h1)
  have b2 := fun p => bank_lanes _ (vecAt fw ow iw) (fun r => rowAt fb (o2 r) (i2 r)) p 2 n (key 2 (by omega) o2 i2 h2)
  have b3 := fun p => bank_lanes _ (vecAt fw ow iw) (fun r => rowAt fb (o3 r) (i3 r)) p 3 n (key 3 (by omega) o3 i3 h3)
  exact congr (congrArg _ (b0 0)) (congr (congrArg _ (b1 0)) (congr (congrArg _ (b2 0)) (congr (congrArg _ (b3 0))
    (congr (congrArg _ (b0 1)) (congr (congrArg _ (b1 1)) (congr (congrArg _ (b2 1)) (b3 1)))))))

end Cert.KernelIdeal.Sc

end
-- ==== Proof.Sc.Ring.lean ====
/-
  The copies of a tile's task: a copy of 128 rows of `memory` into a buffer of the ring, from its start to its wait, with
  what it leaves in the buffer; the copy of `w`'s row.
-/
module

public import proofs.«01_k».proof.Proof.Sc.Values

@[expose] public section

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

/-- The batch a tile works on, and the first row of its SparseCore's half. -/
def bt (L : grid0.Coords) : Fin 16 := ⟨(L 1).val, (L 1).isLt⟩
def bs (L : grid0.Coords) : ℕ := 61440 + 2048 * (L 0).val

theorem bs_le (L : grid0.Coords) : bs L + 2048 ≤ 65536 := by
  have : (L 0).val < 2 := (L 0).isLt
  unfold bs; omega

/-- A window of 128 rows of one batch of `memory`, and one of 2048 entries of a row of `w`, as the task addresses them. -/
abbrev mAt (off : Fin 3 → ℕ) (inb : ∀ a, off a + S1x128x64.size a ≤ S16x65536x64.size a) : Memref sig .scVector .hbm S128x64 .f32 :=
  ((mV).slice (Rect.unit (s := S16x65536x64) off S1x128x64.size inb) (fun _ => rfl)).squeeze S128x64 squeezes_S1x128x64_S128x64
abbrev wAt (off : Fin 2 → ℕ) (inb : ∀ a, off a + S1x2048.size a ≤ S16x65536.size a) : Memref sig .scVector .hbm S2048 .f32 :=
  ((wV).slice (Rect.unit (s := S16x65536) off S1x2048.size inb) (fun _ => rfl)).squeeze S2048 squeezes_S1x2048_S2048

theorem isM_mAt (mem : S16x65536x64.Idx → F .f32) (b : Fin 16) (r0 : ℕ) (hr : r0 + 128 ≤ 65536) (off : Fin 3 → ℕ)
    (inb : ∀ a, off a + S1x128x64.size a ≤ S16x65536x64.size a) (h : off = ![b.val, r0, 0]) :
    IsM mem b r0 ((mAt off inb).view.read (Elt F) mem) := by
  subst h
  intro r v
  have hc : S1x128x64.ShapeCasts S128x64 := by decide
  show shapeCast S128x64 ((mV).view.readAt (Elt F) (Rect.unit (s := S16x65536x64) ![b.val, r0, 0] S1x128x64.size inb).toLoadRect mem) hc (ix2 r v) = _
  refine (shapeCast_apply _ hc (ix2 r v) (ix3 0 r v) (by
    rw [Shape.rowMajor_val_two, Shape.rowMajor_val_three]; simp [ix2, ix3])).trans ?_
  show mem _ = _
  congr 1; funext a
  match a with
  | 0 => exact Fin.ext (show b.val + 1 * 0 = b.val by omega)
  | 1 => exact Fin.ext (show r0 + 1 * r.val = (r0 + r.val) % 65536 by omega)
  | 2 => exact Fin.ext (show 0 + 1 * v.val = v.val % 64 by omega)

theorem isW_wAt (w : S16x65536.Idx → F .f32) (b : Fin 16) (r0 : ℕ) (hr : r0 + 2048 ≤ 65536) (off : Fin 2 → ℕ)
    (inb : ∀ a, off a + S1x2048.size a ≤ S16x65536.size a) (h : off = ![b.val, r0]) :
    IsW w b r0 ((wAt off inb).view.read (Elt F) w) := by
  subst h
  intro r
  have hc : S1x2048.ShapeCasts S2048 := by decide
  show shapeCast S2048 ((wV).view.readAt (Elt F) (Rect.unit (s := S16x65536) ![b.val, r0] S1x2048.size inb).toLoadRect w) hc (ix1 r) = _
  refine (shapeCast_apply _ hc (ix1 r) (ix2 0 r) (by
    rw [Shape.rowMajor_val_one, Shape.rowMajor_val_two]; simp [ix1, ix2])).trans ?_
  show w _ = _
  congr 1; funext a
  match a with
  | 0 => exact Fin.ext (show b.val + 1 * 0 = b.val by omega)
  | 1 => exact Fin.ext (show r0 + 1 * r.val = (r0 + r.val) % 65536 by omega)

variable (d : Dev nD) (L : grid0.Coords)

abbrev thr : Thread nD τ := V d (cV L) (jV L)

/-- A buffer of the ring holding batch `bt L`'s 128 rows from `base` on. -/
def Full (mem : S16x65536x64.Idx → F .f32) (b : Memref sig .scVector .vmem S128x64 .f32) (base : ℕ) : sProp 𝕄 :=
  iprop(∃ fb, ⌜IsM mem (bt L) base (b.view.read (Elt F) fb)⌝ ∗ b.view.loc (thr d L) ↦{fullShare} fb)

/-- A copy of the 128 rows from `base` on, on its way into buffer `b` on cell `sm`; it gives back its share of `memory`. -/
def Coming (mem : S16x65536x64.Idx → F .f32) (q : PosShare TreeShare) (b : Memref sig .scVector .vmem S128x64 .f32) (sm : DmaSem sig) (base : ℕ) : sProp 𝕄 :=
  Flight countersEmb (thr d L) (.dma sm) (default : HIx 1) b.view.dmaCredit iprop(Full d L mem b base ∗ (mV).view.loc (thr d L) ↦{q} mem)

/-- Starting a copy. -/
theorem wp_start {α : Type} (mem : S16x65536x64.Idx → F .f32) (q : PosShare TreeShare) (b : Memref sig .scVector .vmem S128x64 .f32) (sm : DmaSem sig)
    (off : Fin 3 → ℕ) (inb : ∀ a, off a + S1x128x64.size a ≤ S16x65536x64.size a) (base : ℕ) (hr : base + 128 ≤ 65536) (h : off = ![(L 1).val, base, 0])
    {hsrc : (mAt off inb).view.WordExact} {hdst : b.view.WordExact} {hsem : DmaTarget.Typed (nD := nD) (τ := τ) (p := (thr d L).2) .hbm (.dma sm) (.here b)}
    {k : PUnit → Prog (TpuEff nD τ sig (Elt F) Λ₀ (thr d L).2) α} {Q : α → sProp 𝕄} :
    iprop(((mV).view.loc (thr d L) ↦{q} mem) ∗ (∃ fd, b.view.loc (thr d L) ↦{fullShare} fd) ∗ semVal (thr d L, .dma sm) 0)
      ⊢ iprop((Coming d L mem q b sm base -∗ wp frame (wpE (defs₀ (F := F)) 𝒱₀ (thr d L) none) Set.univ (k ⟨⟩) Q)
          -∗ wp frame (wpE (defs₀ (F := F)) 𝒱₀ (thr d L) none) Set.univ (.op (.enqueueDma (mAt off inb) (.here b) (.dma sm) hsrc hdst hsem) k) Q) := by
  iintro ⟨Hm, ⟨%fd, Hb⟩, Hs⟩ Hk
  iapply (wp_dmaFromWhole countersEmb 𝒱₀ (thr d L) none (default : HIx 1) b.view.dmaCredit rfl (View.amount_pos _ (.dma sm) (by decide))
    (Finset.subset_univ _)) $$ [Hm Hb Hs]
  · isplitl [Hm]; · iexact Hm
    isplitl [Hb]; · iexact Hb
    iexact Hs
  iintro Hf
  iapply Hk
  unfold Coming
  iapply (Flight_mono countersEmb (thr d L) ?_) $$ Hf
  iintro ⟨Hb, Hm⟩
  isplitl [Hb]
  · unfold Full
    iexists _; isplitr [Hb]
    swap; · iexact Hb
    ipureintro
    rw [View.read_write_univ]
    exact isM_mAt mem (bt L) base hr off inb h
  · iexact Hm

/-- Waiting for a copy. -/
theorem wp_land {α : Type} (mem : S16x65536x64.Idx → F .f32) (q : PosShare TreeShare) (b : Memref sig .scVector .vmem S128x64 .f32) (sm : DmaSem sig)
    (base : ℕ) {O : CellTallies nD τ sig (HIx 1)} {W : Waits sig (HIx 1)}
    {src : Memref sig .scVector .hbm S128x64 .f32} {hsrc : src.view.WordExact} {hdst : b.view.WordExact}
    {k : PUnit → Prog (TpuEff nD τ sig (Elt F) Λ₀ (thr d L).2) α} {Q : α → sProp 𝕄} :
    iprop(Coming d L mem q b sm base ∗ owes (thr d L) O W ∗ MayWaits (thr d L) (default : HIx 1) O)
      ⊢ iprop((iprop(Full d L mem b base ∗ ((mV).view.loc (thr d L) ↦{q} mem) ∗ semVal (thr d L, .dma sm) 0
            ∗ owes (thr d L) O (insert (SemLoc.dma sm, (default : HIx 1)) W)) -∗ wp frame (wpE (defs₀ (F := F)) 𝒱₀ (thr d L) none) Set.univ (k ⟨⟩) Q)
          -∗ wp frame (wpE (defs₀ (F := F)) 𝒱₀ (thr d L) none) Set.univ (.op (.waitDma2 sm src b hsrc hdst) k) Q) := by
  unfold Coming
  iintro ⟨Hf, HO, Hmw⟩ Hk
  iapply (wp_waitLocalO countersEmb 𝒱₀ (thr d L) none (default : HIx 1) rfl) $$ [Hf HO Hmw]
  · isplitl [Hf]; · iexact Hf
    isplitl [HO]; · iexact HO
    iapply (MayWaits.elim (SemLoc.dma sm)) $$ Hmw
  iintro ⟨⟨Hb, Hm⟩, Hs, HO⟩
  iapply Hk
  isplitl [Hb]; · iexact Hb
  isplitl [Hm]; · iexact Hm
  isplitl [Hs]; · iexact Hs
  iexact HO

end Cert.KernelIdeal.Sc

end
-- ==== Proof.Sc.Rows.lean ====
/-
  The four inner loops of a tile's task, one for each buffer of the ring: eight trips of sixteen rows, each read from the
  buffer in four pieces and multiplied into the registers. One trip is run once, for any buffer contents.
-/
module

public import proofs.«01_k».proof.Proof.Sc.Values

@[expose] public section

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ### Buffer 0 -/

/-- Buffer 0's trip, on the task's own memrefs. -/
abbrev trip0 (L : grid0.Coords) (t1 : Fin k0_t1_loop.trips) (v1 z0 z1 v : BitVec 32) (c : Regs F) :=
  k0_t2_body (F := F) L wV (Memref.isWhole_whole _) mV (Memref.isWhole_whole _) oV (Memref.isWhole_whole _)
    b0V (Memref.isWhole_whole _) b1V (Memref.isWhole_whole _) b2V (Memref.isWhole_whole _) b3V (Memref.isWhole_whole _)
    waV (Memref.isWhole_whole _) acV (Memref.isWhole_whole _)
    cc0_scratch6 cc0_scratch7 cc0_scratch8 cc0_scratch9 cc0_scratch10 cc0_scoped0 v1 z0 z1 t1 c.1 c.2.1 c.2.2.1 c.2.2.2.1 c.2.2.2.2.1 c.2.2.2.2.2.1 c.2.2.2.2.2.2.1 c.2.2.2.2.2.2.2 v

set_option maxHeartbeats 4000000 in
theorem row0 (d : Dev nD) (L : grid0.Coords) (t1 : Fin k0_t1_loop.trips) (v1 z0 z1 v : BitVec 32) (c : Regs F) (t : Fin k0_t2_loop.trips)
    (a : Regs F) (fb : Buf (Elt F) ((b0V).view.loc (V d (cV L) (jV L)))) (fw : Buf (Elt F) ((waV).view.loc (V d (cV L) (jV L)))) :
    iprop(((b0V).view.loc (V d (cV L) (jV L)) ↦{fullShare} fb) ∗ ((waV).view.loc (V d (cV L) (jV L)) ↦{fullShare} fw))
      ⊢ (wp frame (wpE (defs₀ (F := F)) 𝒱₀ (V d (cV L) (jV L)) none) Set.univ (trip0 L t1 v1 z0 z1 v c t a)
          fun r => iprop(⌜r = rowOut (vecAt fw (k0_off4 t1 t) (k0_off4_inb t1 t))
              (fun r => rowAt fb (k0_off5 t (BitVec.ofNat 32 r.val)) (k0_off5_inb t r)) (fun r => rowAt fb (k0_off6 t (BitVec.ofNat 32 r.val)) (k0_off6_inb t r))
              (fun r => rowAt fb (k0_off7 t (BitVec.ofNat 32 r.val)) (k0_off7_inb t r)) (fun r => rowAt fb (k0_off8 t (BitVec.ofNat 32 r.val)) (k0_off8_inb t r)) a⌝
            ∗ ((b0V).view.loc (V d (cV L) (jV L)) ↦{fullShare} fb) ∗ ((waV).view.loc (V d (cV L) (jV L)) ↦{fullShare} fw)) : sProp 𝕄) := by
  unfold trip0 k0_t2_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [Prog.lift, Prog.bind_op, Prog.bind_ret, Prog.pure_eq_ret, Prog.bind_assoc]
  iintro ⟨Hb', Hw'⟩
  ihave Hb := (show _ ⊢ ((b0V).view.loc (V d (cV L) (jV L)) ↦{fullShare} fb : sProp 𝕄) from .rfl) $$ Hb'
  ihave Hw := (show _ ⊢ ((waV).view.loc (V d (cV L) (jV L)) ↦{fullShare} fw : sProp 𝕄) from .rfl) $$ Hw'
  sl_exec
  sl_step
  isplitr [Hb Hw]
  · ipureintro; rfl
  · isplitl [Hb]; · iexact Hb
    iexact Hw

/-- Buffer 0's loop: from the registers after the chunks before it to those after it. -/
theorem loop0 (d : Dev nD) (L : grid0.Coords) (t1 : Fin k0_t1_loop.trips) (v1 z0 z1 v : BitVec 32) (c : Regs F)
    (w : S16x65536.Idx → F .f32) (mem : S16x65536x64.Idx → F .f32) (b : Fin 16) (base : ℕ)
    (fb : Buf (Elt F) ((b0V).view.loc (V d (cV L) (jV L)))) (fw : Buf (Elt F) ((waV).view.loc (V d (cV L) (jV L))))
    (hw : IsW w b base fw) (hb : IsM mem b (base + 128 * (4 * t1.val + 0)) fb) :
    iprop(((b0V).view.loc (V d (cV L) (jV L)) ↦{fullShare} fb) ∗ ((waV).view.loc (V d (cV L) (jV L)) ↦{fullShare} fw))
      ⊢ (wp frame (wpE (defs₀ (F := F)) 𝒱₀ (V d (cV L) (jV L)) none) Set.univ
          (Scf.Loop.for k0_t2_loop k0_t2_ok (regs (prod w mem b base) (64 * (4 * t1.val + 0))) (trip0 L t1 v1 z0 z1 v c))
          fun r => iprop(⌜r = regs (prod w mem b base) (64 * (4 * t1.val + 0 + 1))⌝
            ∗ ((b0V).view.loc (V d (cV L) (jV L)) ↦{fullShare} fb) ∗ ((waV).view.loc (V d (cV L) (jV L)) ↦{fullShare} fw)) : sProp 𝕄) := by
  have htr : k0_t2_loop.trips = 8 := by decide +kernel
  have ht1 : t1.val < 4 := Nat.lt_of_lt_of_le t1.isLt k0_t1_abs.2.1
  refine BIBase.Entails.trans ?_ (Scf.wp_for frame (wpE (defs₀ (F := F)) 𝒱₀ (V d (cV L) (jV L)) none) Set.univ _ _ _ k0_t2_ok _ _
    (fun k r => iprop(⌜r = regs (prod w mem b base) (64 * (4 * t1.val + 0) + 8 * k)⌝
      ∗ ((b0V).view.loc (V d (cV L) (jV L)) ↦{fullShare} fb) ∗ ((waV).view.loc (V d (cV L) (jV L)) ↦{fullShare} fw))) ?_)
  · iintro H
    isplitl [H]
    · isplitr [H]
      · ipureintro; rfl
      · iexact H
    · iintro %r ⟨%hr, H⟩
      isplitr [H]
      · ipureintro
        rw [hr]
        exact congrArg _ (show 64 * (4 * t1.val + 0) + 8 * k0_t2_loop.trips = _ by rw [htr]; omega)
      · iexact H
  · intro t a
    have ht : t.val < 8 := Nat.lt_of_lt_of_le t.isLt k0_t2_abs.2.1
    iintro ⟨%ha, H⟩
    subst ha
    iapply (wp_wand_r frame (wpE (defs₀ (F := F)) 𝒱₀ (V d (cV L) (jV L)) none) Set.univ)
    isplitl [H]
    · iapply (row0 d L t1 v1 z0 z1 v c t _ fb fw); iexact H
    · iintro %r ⟨%hr, H⟩
      isplitr [H]
      · ipureintro
        rw [hr]
        exact rowOut_regs w mem b base (4 * t1.val + 0) t.val _ ht (by omega) rfl fw fb hw hb _
          ((k0_off4_eq t1 t).trans (by congr 1; omega)) _ _ _ _
          (fun r => k0_off5_eq t r) (fun r => k0_off6_eq t r) (fun r => k0_off7_eq t r) (fun r => k0_off8_eq t r)
      · iexact H

/-! ### Buffer 1 -/

/-- Buffer 1's trip, on the task's own memrefs. -/
abbrev trip1 (L : grid0.Coords) (t1 : Fin k0_t1_loop.trips) (v1 z0 z1 v : BitVec 32) (c : Regs F) :=
  k0_t3_body (F := F) L wV (Memref.isWhole_whole _) mV (Memref.isWhole_whole _) oV (Memref.isWhole_whole _)
    b0V (Memref.isWhole_whole _) b1V (Memref.isWhole_whole _) b2V (Memref.isWhole_whole _) b3V (Memref.isWhole_whole _)
    waV (Memref.isWhole_whole _) acV (Memref.isWhole_whole _)
    cc0_scratch6 cc0_scratch7 cc0_scratch8 cc0_scratch9 cc0_scratch10 cc0_scoped0 v1 z0 z1 t1 c.1 c.2.1 c.2.2.1 c.2.2.2.1 c.2.2.2.2.1 c.2.2.2.2.2.1 c.2.2.2.2.2.2.1 c.2.2.2.2.2.2.2 v

set_option maxHeartbeats 4000000 in
theorem row1 (d : Dev nD) (L : grid0.Coords) (t1 : Fin k0_t1_loop.trips) (v1 z0 z1 v : BitVec 32) (c : Regs F) (t : Fin k0_t3_loop.trips)
    (a : Regs F) (fb : Buf (Elt F) ((b1V).view.loc (V d (cV L) (jV L)))) (fw : Buf (Elt F) ((waV).view.loc (V d (cV L) (jV L)))) :
    iprop(((b1V).view.loc (V d (cV L) (jV L)) ↦{fullShare} fb) ∗ ((waV).view.loc (V d (cV L) (jV L)) ↦{fullShare} fw))
      ⊢ (wp frame (wpE (defs₀ (F := F)) 𝒱₀ (V d (cV L) (jV L)) none) Set.univ (trip1 L t1 v1 z0 z1 v c t a)
          fun r => iprop(⌜r = rowOut (vecAt fw (k0_off10 t1 t) (k0_off10_inb t1 t))
              (fun r => rowAt fb (k0_off11 t (BitVec.ofNat 32 r.val)) (k0_off11_inb t r)) (fun r => rowAt fb (k0_off12 t (BitVec.ofNat 32 r.val)) (k0_off12_inb t r))
              (fun r => rowAt fb (k0_off13 t (BitVec.ofNat 32 r.val)) (k0_off13_inb t r)) (fun r => rowAt fb (k0_off14 t (BitVec.ofNat 32 r.val)) (k0_off14_inb t r)) a⌝
            ∗ ((b1V).view.loc (V d (cV L) (jV L)) ↦{fullShare} fb) ∗ ((waV).view.loc (V d (cV L) (jV L)) ↦{fullShare} fw)) : sProp 𝕄) := by
  unfold trip1 k0_t3_body
  simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold k0_part12_skel k0_part13_skel k0_part14_skel k0_part15_skel k0_part16_skel k0_part17_skel k0_part18_skel k0_part19_skel k0_part20_skel k0_part21_skel k0_part22_skel
  simp only [Prog.lift, Prog.bind_op, Prog.bind_ret, Prog.pure_eq_ret, Prog.bind_assoc]
  iintro ⟨Hb', Hw'⟩
  ihave Hb := (show _ ⊢ ((b1V).view.loc (V d (cV L) (jV L)) ↦{fullShare} fb : sProp 𝕄) from .rfl) $$ Hb'
  ihave Hw := (show _ ⊢ ((waV).view.loc (V d (cV L) (jV L)) ↦{fullShare} fw : sProp 𝕄) from .rfl) $$ Hw'
  sl_exec
  sl_step
  isplitr [Hb Hw]
  · ipureintro; rfl
  · isplitl [Hb]; · iexact Hb
    iexact Hw

/-- Buffer 1's loop: from the registers after the chunks before it to those after it. -/
theorem loop1 (d : Dev nD) (L : grid0.Coords) (t1 : Fin k0_t1_loop.trips) (v1 z0 z1 v : BitVec 32) (c : Regs F)
    (w : S16x65536.Idx → F .f32) (mem : S16x65536x64.Idx → F .f32) (b : Fin 16) (base : ℕ)
    (fb : Buf (Elt F) ((b1V).view.loc (V d (cV L) (jV L)))) (fw : Buf (Elt F) ((waV).view.loc (V d (cV L) (jV L))))
    (hw : IsW w b base fw) (hb : IsM mem b (base + 128 * (4 * t1.val + 1)) fb) :
    iprop(((b1V).view.loc (V d (cV L) (jV L)) ↦{fullShare} fb) ∗ ((waV).view.loc (V d (cV L) (jV L)) ↦{fullShare} fw))
      ⊢ (wp frame (wpE (defs₀ (F := F)) 𝒱₀ (V d (cV L) (jV L)) none) Set.univ
          (Scf.Loop.for k0_t3_loop k0_t3_ok (regs (prod w mem b base) (64 * (4 * t1.val + 1))) (trip1 L t1 v1 z0 z1 v c))
          fun r => iprop(⌜r = regs (prod w mem b base) (64 * (4 * t1.val + 1 + 1))⌝
            ∗ ((b1V).view.loc (V d (cV L) (jV L)) ↦{fullShare} fb) ∗ ((waV).view.loc (V d (cV L) (jV L)) ↦{fullShare} fw)) : sProp 𝕄) := by
  have htr : k0_t3_loop.trips = 8 := by decide +kernel
  have ht1 : t1.val < 4 := Nat.lt_of_lt_of_le t1.isLt k0_t1_abs.2.1
  refine BIBase.Entails.trans ?_ (Scf.wp_for frame (wpE (defs₀ (F := F)) 𝒱₀ (V d (cV L) (jV L)) none) Set.univ _ _ _ k0_t3_ok _ _
    (fun k r => iprop(⌜r = regs (prod w mem b base) (64 * (4 * t1.val + 1) + 8 * k)⌝
      ∗ ((b1V).view.loc (V d (cV L) (jV L)) ↦{fullShare} fb) ∗ ((waV).view.loc (V d (cV L) (jV L)) ↦{fullShare} fw))) ?_)
  · iintro H
    isplitl [H]
    · isplitr [H]
      · ipureintro; rfl
      · iexact H
    · iintro %r ⟨%hr, H⟩
      isplitr [H]
      · ipureintro
        rw [hr]
        exact congrArg _ (show 64 * (4 * t1.val + 1) + 8 * k0_t3_loop.trips = _ by rw [htr]; omega)
      · iexact H
  · intro t a
    have ht : t.val < 8 := Nat.lt_of_lt_of_le t.isLt k0_t3_abs.2.1
    iintro ⟨%ha, H⟩
    subst ha
    iapply (wp_wand_r frame (wpE (defs₀ (F := F)) 𝒱₀ (V d (cV L) (jV L)) none) Set.univ)
    isplitl [H]
    · iapply (row1 d L t1 v1 z0 z1 v c t _ fb fw); iexact H
    · iintro %r ⟨%hr, H⟩
      isplitr [H]
      · ipureintro
        rw [hr]
        exact rowOut_regs w mem b base (4 * t1.val + 1) t.val _ ht (by omega) rfl fw fb hw hb _
          ((k0_off10_eq t1 t).trans (by congr 1; omega)) _ _ _ _
          (fun r => k0_off11_eq t r) (fun r => k0_off12_eq t r) (fun r => k0_off13_eq t r) (fun r => k0_off14_eq t r)
      · iexact H

/-! ### Buffer 2 -/

/-- Buffer 2's trip, on the task's own memrefs. -/
abbrev trip2 (L : grid0.Coords) (t1 : Fin k0_t1_loop.trips) (v : BitVec 32) :=
  k0_t4_body (F := F) L wV (Memref.isWhole_whole _) mV (Memref.isWhole_whole _) oV (Memref.isWhole_whole _)
    b0V (Memref.isWhole_whole _) b1V (Memref.isWhole_whole _) b2V (Memref.isWhole_whole _) b3V (Memref.isWhole_whole _)
    waV (Memref.isWhole_whole _) acV (Memref.isWhole_whole _)
    cc0_scratch6 cc0_scratch7 cc0_scratch8 cc0_scratch9 cc0_scratch10 cc0_scoped0 t1 v

set_option maxHeartbeats 4000000 in
theorem row2 (d : Dev nD) (L : grid0.Coords) (t1 : Fin k0_t1_loop.trips) (v : BitVec 32) (t : Fin k0_t4_loop.trips)
    (a : Regs F) (fb : Buf (Elt F) ((b2V).view.loc (V d (cV L) (jV L)))) (fw : Buf (Elt F) ((waV).view.loc (V d (cV L) (jV L)))) :
    iprop(((b2V).view.loc (V d (cV L) (jV L)) ↦{fullShare} fb) ∗ ((waV).view.loc (V d (cV L) (jV L)) ↦{fullShare} fw))
      ⊢ (wp frame (wpE (defs₀ (F := F)) 𝒱₀ (V d (cV L) (jV L)) none) Set.univ (trip2 L t1 v t a)
          fun r => iprop(⌜r = rowOut (vecAt fw (k0_off16 t1 t) (k0_off16_inb t1 t))
              (fun r => rowAt fb (k0_off17 t (BitVec.ofNat 32 r.val)) (k0_off17_inb t r)) (fun r => rowAt fb (k0_off18 t (BitVec.ofNat 32 r.val)) (k0_off18_inb t r))
              (fun r => rowAt fb (k0_off19 t (BitVec.ofNat 32 r.val)) (k0_off19_inb t r)) (fun r => rowAt fb (k0_off20 t (BitVec.ofNat 32 r.val)) (k0_off20_inb t r)) a⌝
            ∗ ((b2V).view.loc (V d (cV L) (jV L)) ↦{fullShare} fb) ∗ ((waV).view.loc (V d (cV L) (jV L)) ↦{fullShare} fw)) : sProp 𝕄) := by
  unfold trip2 k0_t4_body
  simp only [k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold k0_part23_skel k0_part24_skel k0_part25_skel k0_part26_skel k0_part27_skel k0_part28_skel k0_part29_skel k0_part30_skel k0_part31_skel k0_part32_skel k0_part33_skel
  simp only [Prog.lift, Prog.bind_op, Prog.bind_ret, Prog.pure_eq_ret, Prog.bind_assoc]
  iintro ⟨Hb', Hw'⟩
  ihave Hb := (show _ ⊢ ((b2V).view.loc (V d (cV L) (jV L)) ↦{fullShare} fb : sProp 𝕄) from .rfl) $$ Hb'
  ihave Hw := (show _ ⊢ ((waV).view.loc (V d (cV L) (jV L)) ↦{fullShare} fw : sProp 𝕄) from .rfl) $$ Hw'
  sl_exec
  sl_step
  isplitr [Hb Hw]
  · ipureintro; rfl
  · isplitl [Hb]; · iexact Hb
    iexact Hw

/-- Buffer 2's loop: from the registers after the chunks before it to those after it. -/
theorem loop2 (d : Dev nD) (L : grid0.Coords) (t1 : Fin k0_t1_loop.trips) (v : BitVec 32)
    (w : S16x65536.Idx → F .f32) (mem : S16x65536x64.Idx → F .f32) (b : Fin 16) (base : ℕ)
    (fb : Buf (Elt F) ((b2V).view.loc (V d (cV L) (jV L)))) (fw : Buf (Elt F) ((waV).view.loc (V d (cV L) (jV L))))
    (hw : IsW w b base fw) (hb : IsM mem b (base + 128 * (4 * t1.val + 2)) fb) :
    iprop(((b2V).view.loc (V d (cV L) (jV L)) ↦{fullShare} fb) ∗ ((waV).view.loc (V d (cV L) (jV L)) ↦{fullShare} fw))
      ⊢ (wp frame (wpE (defs₀ (F := F)) 𝒱₀ (V d (cV L) (jV L)) none) Set.univ
          (Scf.Loop.for k0_t4_loop k0_t4_ok (regs (prod w mem b base) (64 * (4 * t1.val + 2))) (trip2 L t1 v))
          fun r => iprop(⌜r = regs (prod w mem b base) (64 * (4 * t1.val + 2 + 1))⌝
            ∗ ((b2V).view.loc (V d (cV L) (jV L)) ↦{fullShare} fb) ∗ ((waV).view.loc (V d (cV L) (jV L)) ↦{fullShare} fw)) : sProp 𝕄) := by
  have htr : k0_t4_loop.trips = 8 := by decide +kernel
  have ht1 : t1.val < 4 := Nat.lt_of_lt_of_le t1.isLt k0_t1_abs.2.1
  refine BIBase.Entails.trans ?_ (Scf.wp_for frame (wpE (defs₀ (F := F)) 𝒱₀ (V d (cV L) (jV L)) none) Set.univ _ _ _ k0_t4_ok _ _
    (fun k r => iprop(⌜r = regs (prod w mem b base) (64 * (4 * t1.val + 2) + 8 * k)⌝
      ∗ ((b2V).view.loc (V d (cV L) (jV L)) ↦{fullShare} fb) ∗ ((waV).view.loc (V d (cV L) (jV L)) ↦{fullShare} fw))) ?_)
  · iintro H
    isplitl [H]
    · isplitr [H]
      · ipureintro; rfl
      · iexact H
    · iintro %r ⟨%hr, H⟩
      isplitr [H]
      · ipureintro
        rw [hr]
        exact congrArg _ (show 64 * (4 * t1.val + 2) + 8 * k0_t4_loop.trips = _ by rw [htr]; omega)
      · iexact H
  · intro t a
    have ht : t.val < 8 := Nat.lt_of_lt_of_le t.isLt k0_t4_abs.2.1
    iintro ⟨%ha, H⟩
    subst ha
    iapply (wp_wand_r frame (wpE (defs₀ (F := F)) 𝒱₀ (V d (cV L) (jV L)) none) Set.univ)
    isplitl [H]
    · iapply (row2 d L t1 v t _ fb fw); iexact H
    · iintro %r ⟨%hr, H⟩
      isplitr [H]
      · ipureintro
        rw [hr]
        exact rowOut_regs w mem b base (4 * t1.val + 2) t.val _ ht (by omega) rfl fw fb hw hb _
          ((k0_off16_eq t1 t).trans (by congr 1; omega)) _ _ _ _
          (fun r => k0_off17_eq t r) (fun r => k0_off18_eq t r) (fun r => k0_off19_eq t r) (fun r => k0_off20_eq t r)
      · iexact H

/-! ### Buffer 3 -/

/-- Buffer 3's trip, on the task's own memrefs. -/
abbrev trip3 (L : grid0.Coords) (t1 : Fin k0_t1_loop.trips) (v : BitVec 32) :=
  k0_t5_body (F := F) L wV (Memref.isWhole_whole _) mV (Memref.isWhole_whole _) oV (Memref.isWhole_whole _)
    b0V (Memref.isWhole_whole _) b1V (Memref.isWhole_whole _) b2V (Memref.isWhole_whole _) b3V (Memref.isWhole_whole _)
    waV (Memref.isWhole_whole _) acV (Memref.isWhole_whole _)
    cc0_scratch6 cc0_scratch7 cc0_scratch8 cc0_scratch9 cc0_scratch10 cc0_scoped0 t1 v

set_option maxHeartbeats 4000000 in
theorem row3 (d : Dev nD) (L : grid0.Coords) (t1 : Fin k0_t1_loop.trips) (v : BitVec 32) (t : Fin k0_t5_loop.trips)
    (a : Regs F) (fb : Buf (Elt F) ((b3V).view.loc (V d (cV L) (jV L)))) (fw : Buf (Elt F) ((waV).view.loc (V d (cV L) (jV L)))) :
    iprop(((b3V).view.loc (V d (cV L) (jV L)) ↦{fullShare} fb) ∗ ((waV).view.loc (V d (cV L) (jV L)) ↦{fullShare} fw))
      ⊢ (wp frame (wpE (defs₀ (F := F)) 𝒱₀ (V d (cV L) (jV L)) none) Set.univ (trip3 L t1 v t a)
          fun r => iprop(⌜r = rowOut (vecAt fw (k0_off22 t1 t) (k0_off22_inb t1 t))
              (fun r => rowAt fb (k0_off23 t (BitVec.ofNat 32 r.val)) (k0_off23_inb t r)) (fun r => rowAt fb (k0_off24 t (BitVec.ofNat 32 r.val)) (k0_off24_inb t r))
              (fun r => rowAt fb (k0_off25 t (BitVec.ofNat 32 r.val)) (k0_off25_inb t r)) (fun r => rowAt fb (k0_off26 t (BitVec.ofNat 32 r.val)) (k0_off26_inb t r)) a⌝
            ∗ ((b3V).view.loc (V d (cV L) (jV L)) ↦{fullShare} fb) ∗ ((waV).view.loc (V d (cV L) (jV L)) ↦{fullShare} fw)) : sProp 𝕄) := by
  unfold trip3 k0_t5_body
  simp only [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold k0_part34_skel k0_part35_skel k0_part36_skel k0_part37_skel k0_part38_skel k0_part39_skel k0_part40_skel k0_part41_skel k0_part42_skel k0_part43_skel k0_part44_skel
  simp only [Prog.lift, Prog.bind_op, Prog.bind_ret, Prog.pure_eq_ret, Prog.bind_assoc]
  iintro ⟨Hb', Hw'⟩
  ihave Hb := (show _ ⊢ ((b3V).view.loc (V d (cV L) (jV L)) ↦{fullShare} fb : sProp 𝕄) from .rfl) $$ Hb'
  ihave Hw := (show _ ⊢ ((waV).view.loc (V d (cV L) (jV L)) ↦{fullShare} fw : sProp 𝕄) from .rfl) $$ Hw'
  sl_exec
  sl_step
  isplitr [Hb Hw]
  · ipureintro; rfl
  · isplitl [Hb]; · iexact Hb
    iexact Hw

/-- Buffer 3's loop: from the registers after the chunks before it to those after it. -/
theorem loop3 (d : Dev nD) (L : grid0.Coords) (t1 : Fin k0_t1_loop.trips) (v : BitVec 32)
    (w : S16x65536.Idx → F .f32) (mem : S16x65536x64.Idx → F .f32) (b : Fin 16) (base : ℕ)
    (fb : Buf (Elt F) ((b3V).view.loc (V d (cV L) (jV L)))) (fw : Buf (Elt F) ((waV).view.loc (V d (cV L) (jV L))))
    (hw : IsW w b base fw) (hb : IsM mem b (base + 128 * (4 * t1.val + 3)) fb) :
    iprop(((b3V).view.loc (V d (cV L) (jV L)) ↦{fullShare} fb) ∗ ((waV).view.loc (V d (cV L) (jV L)) ↦{fullShare} fw))
      ⊢ (wp frame (wpE (defs₀ (F := F)) 𝒱₀ (V d (cV L) (jV L)) none) Set.univ
          (Scf.Loop.for k0_t5_loop k0_t5_ok (regs (prod w mem b base) (64 * (4 * t1.val + 3))) (trip3 L t1 v))
          fun r => iprop(⌜r = regs (prod w mem b base) (64 * (4 * t1.val + 3 + 1))⌝
            ∗ ((b3V).view.loc (V d (cV L) (jV L)) ↦{fullShare} fb) ∗ ((waV).view.loc (V d (cV L) (jV L)) ↦{fullShare} fw)) : sProp 𝕄) := by
  have htr : k0_t5_loop.trips = 8 := by decide +kernel
  have ht1 : t1.val < 4 := Nat.lt_of_lt_of_le t1.isLt k0_t1_abs.2.1
  refine BIBase.Entails.trans ?_ (Scf.wp_for frame (wpE (defs₀ (F := F)) 𝒱₀ (V d (cV L) (jV L)) none) Set.univ _ _ _ k0_t5_ok _ _
    (fun k r => iprop(⌜r = regs (prod w mem b base) (64 * (4 * t1.val + 3) + 8 * k)⌝
      ∗ ((b3V).view.loc (V d (cV L) (jV L)) ↦{fullShare} fb) ∗ ((waV).view.loc (V d (cV L) (jV L)) ↦{fullShare} fw))) ?_)
  · iintro H
    isplitl [H]
    · isplitr [H]
      · ipureintro; rfl
      · iexact H
    · iintro %r ⟨%hr, H⟩
      isplitr [H]
      · ipureintro
        rw [hr]
        exact congrArg _ (show 64 * (4 * t1.val + 3) + 8 * k0_t5_loop.trips = _ by rw [htr]; omega)
      · iexact H
  · intro t a
    have ht : t.val < 8 := Nat.lt_of_lt_of_le t.isLt k0_t5_abs.2.1
    iintro ⟨%ha, H⟩
    subst ha
    iapply (wp_wand_r frame (wpE (defs₀ (F := F)) 𝒱₀ (V d (cV L) (jV L)) none) Set.univ)
    isplitl [H]
    · iapply (row3 d L t1 v t _ fb fw); iexact H
    · iintro %r ⟨%hr, H⟩
      isplitr [H]
      · ipureintro
        rw [hr]
        exact rowOut_regs w mem b base (4 * t1.val + 3) t.val _ ht (by omega) rfl fw fb hw hb _
          ((k0_off22_eq t1 t).trans (by congr 1; omega)) _ _ _ _
          (fun r => k0_off23_eq t r) (fun r => k0_off24_eq t r) (fun r => k0_off25_eq t r) (fun r => k0_off26_eq t r)
      · iexact H

end Cert.KernelIdeal.Sc

end
-- ==== Proof.Sc.Chunk.lean ====
/-
  One trip of a tile's outer loop: for each buffer of the ring the wait for its copy, the loop over its rows, and, but in
  the last trip, the start of the copy of the chunk four further on.
-/
module

public import proofs.«01_k».proof.Proof.Sc.Ring
public import proofs.«01_k».proof.Proof.Sc.Rows

@[expose] public section

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

variable (d : Dev nD) (L : grid0.Coords)

/-- A buffer of the ring before trip `t`: its copy on the way, and after the last trip the buffer and its share back. -/
def Slot (mem : S16x65536x64.Idx → F .f32) (q : PosShare TreeShare) (b : Memref sig .scVector .vmem S128x64 .f32) (sm : DmaSem sig) (r t : ℕ) : sProp 𝕄 :=
  if t < 4 then Coming d L mem q b sm (bs L + 128 * (4 * t + r))
  else iprop(((mV).view.loc (thr d L) ↦{q} mem) ∗ (∃ fd, b.view.loc (thr d L) ↦{fullShare} fd) ∗ semVal (thr d L, .dma sm) 0)

/-- The start of the next copy into a buffer, where there is one. -/
theorem wp_refill {α : Type} (mem : S16x65536x64.Idx → F .f32) (q : PosShare TreeShare) (b : Memref sig .scVector .vmem S128x64 .f32) (sm : DmaSem sig)
    (r t : ℕ) (hr : r < 4) (ht : t < 4) (cnd : BitVec 1) (hc : cnd = 1#1 ↔ t < 3) (off : Fin 3 → ℕ)
    (inb : cnd = 1#1 → ∀ a, off a + S1x128x64.size a ≤ S16x65536x64.size a) (h : off = ![(L 1).val, bs L + 128 * (4 * (t + 1) + r), 0])
    {hsrc : ∀ h, (mAt off (inb h)).view.WordExact} {hdst : b.view.WordExact} {hsem : DmaTarget.Typed (nD := nD) (τ := τ) (p := (thr d L).2) .hbm (.dma sm) (.here b)}
    {k : PUnit → Prog (TpuEff nD τ sig (Elt F) Λ₀ (thr d L).2) α} {Q : α → sProp 𝕄} :
    iprop(((mV).view.loc (thr d L) ↦{q} mem) ∗ (∃ fd, b.view.loc (thr d L) ↦{fullShare} fd) ∗ semVal (thr d L, .dma sm) 0)
      ⊢ iprop((Slot d L mem q b sm r (t + 1) -∗ wp frame (wpE (defs₀ (F := F)) 𝒱₀ (thr d L) none) Set.univ (k ⟨⟩) Q)
        -∗ wp frame (wpE (defs₀ (F := F)) 𝒱₀ (thr d L) none) Set.univ
          (if hh : cnd = 1#1 then Prog.op (.enqueueDma (mAt off (inb hh)) (.here b) (.dma sm) (hsrc hh) hdst hsem) k else k ⟨⟩) Q) := by
  iintro H HQ
  by_cases hh : cnd = 1#1
  · rw [dif_pos hh]
    have ht3 := hc.mp hh
    iapply (wp_start d L mem q b sm off (inb hh) (bs L + 128 * (4 * (t + 1) + r)) (by have := bs_le L; omega) h) $$ H
    iintro Hf
    iapply HQ
    unfold Slot
    rw [if_pos (by omega)]
    iexact Hf
  · rw [dif_neg hh]
    have ht3 : ¬ t < 3 := fun h => hh (hc.mpr h)
    iapply HQ
    unfold Slot
    rw [if_neg (by omega)]
    iexact H

/-- A piece of the program whose result is known, then the rest. -/
theorem wp_then {α β : Type} {p : Prog (TpuEff nD τ sig (Elt F) Λ₀ (thr d L).2) α} {k : α → Prog (TpuEff nD τ sig (Elt F) Λ₀ (thr d L).2) β}
    {P R : sProp 𝕄} {G : α} {Q : β → sProp 𝕄}
    (h : P ⊢ wp frame (wpE (defs₀ (F := F)) 𝒱₀ (thr d L) none) Set.univ p fun r => iprop(⌜r = G⌝ ∗ R)) :
    P ⊢ iprop((R -∗ wp frame (wpE (defs₀ (F := F)) 𝒱₀ (thr d L) none) Set.univ (k G) Q)
      -∗ wp frame (wpE (defs₀ (F := F)) 𝒱₀ (thr d L) none) Set.univ (p >>= k) Q) := by
  iintro HP Hk
  rw [wp_bind]
  iapply (wp_wand_r frame (wpE (defs₀ (F := F)) 𝒱₀ (thr d L) none) Set.univ)
  isplitl [HP]
  · iapply h; iexact HP
  · iintro %r ⟨%hr, HR⟩
    subst hr
    iapply Hk; iexact HR

theorem cond1_iff : ∀ t : Fin k0_t1_loop.trips, k0_cond1 t = 1#1 ↔ t.val < 3 := by decide +kernel
theorem cond2_iff : ∀ t : Fin k0_t1_loop.trips, k0_cond2 t = 1#1 ↔ t.val < 3 := by decide +kernel
theorem cond3_iff : ∀ t : Fin k0_t1_loop.trips, k0_cond3 t = 1#1 ↔ t.val < 3 := by decide +kernel
theorem cond4_iff : ∀ t : Fin k0_t1_loop.trips, k0_cond4 t = 1#1 ↔ t.val < 3 := by decide +kernel

/-- The outer loop's trip, on the task's own memrefs. -/
abbrev chunk (v1 : BitVec 32) :=
  k0_t1_body (F := F) L wV (Memref.isWhole_whole _) mV (Memref.isWhole_whole _) oV (Memref.isWhole_whole _)
    b0V (Memref.isWhole_whole _) b1V (Memref.isWhole_whole _) b2V (Memref.isWhole_whole _) b3V (Memref.isWhole_whole _)
    waV (Memref.isWhole_whole _) acV (Memref.isWhole_whole _)
    cc0_scratch6 cc0_scratch7 cc0_scratch8 cc0_scratch9 cc0_scratch10 cc0_scoped0 v1

/-- The four shares of `memory` a tile's four buffers use. -/
structure Shares where
  q0 : PosShare TreeShare
  q1 : PosShare TreeShare
  q2 : PosShare TreeShare
  q3 : PosShare TreeShare

/-- The ring before trip `t`. -/
def RingAt (mem : S16x65536x64.Idx → F .f32) (q : Shares) (t : ℕ) : sProp 𝕄 :=
  iprop(Slot d L mem q.q0 b0V cc0_scratch6.sem 0 t ∗ Slot d L mem q.q1 b1V cc0_scratch7.sem 1 t
    ∗ Slot d L mem q.q2 b2V cc0_scratch8.sem 2 t ∗ Slot d L mem q.q3 b3V cc0_scratch9.sem 3 t)

/-- What the thread owes, its waits but those it began with on cells of no handshake. -/
def OwesIn (O : CellTallies nD τ sig (HIx 1)) (W : Waits sig (HIx 1)) : sProp 𝕄 :=
  iprop(∃ W', ⌜∀ p ∈ W', p ∈ W ∨ p.2 = none⌝ ∗ owes (thr d L) O W')

theorem owesIn_insert (O : CellTallies nD τ sig (HIx 1)) (W W' : Waits sig (HIx 1)) (hW : ∀ p ∈ W', p ∈ W ∨ p.2 = none) (sm : SemLoc sig) :
    (owes (thr d L) O (insert (sm, (default : HIx 1)) W') : sProp 𝕄) ⊢ OwesIn (F := F) d L O W := by
  unfold OwesIn
  iintro H
  iexists _; isplitr [H]
  swap; · iexact H
  ipureintro; intro p hp
  rcases Finset.mem_insert.mp hp with hp | hp
  · exact .inr (hp ▸ rfl)
  · exact hW p hp

theorem full_elim (mem : S16x65536x64.Idx → F .f32) (b : Memref sig .scVector .vmem S128x64 .f32) (base : ℕ) :
    Full d L mem b base ⊢ (iprop(∃ fb, ⌜IsM mem (bt L) base (b.view.read (Elt F) fb)⌝ ∗ b.view.loc (thr d L) ↦{fullShare} fb) : sProp 𝕄) := .rfl

theorem slot_land {α : Type} (mem : S16x65536x64.Idx → F .f32) (q : PosShare TreeShare) (b : Memref sig .scVector .vmem S128x64 .f32) (sm : DmaSem sig)
    (r t : ℕ) (ht : t < 4) {O : CellTallies nD τ sig (HIx 1)} {W : Waits sig (HIx 1)}
    {src : Memref sig .scVector .hbm S128x64 .f32} {hsrc : src.view.WordExact} {hdst : b.view.WordExact}
    {k : PUnit → Prog (TpuEff nD τ sig (Elt F) Λ₀ (thr d L).2) α} {Q : α → sProp 𝕄} :
    iprop(Slot d L mem q b sm r t ∗ OwesIn d L O W ∗ MayWaits (thr d L) (default : HIx 1) O)
      ⊢ iprop((iprop(Full d L mem b (bs L + 128 * (4 * t + r)) ∗ ((mV).view.loc (thr d L) ↦{q} mem) ∗ semVal (thr d L, .dma sm) 0
            ∗ OwesIn d L O W) -∗ wp frame (wpE (defs₀ (F := F)) 𝒱₀ (thr d L) none) Set.univ (k ⟨⟩) Q)
          -∗ wp frame (wpE (defs₀ (F := F)) 𝒱₀ (thr d L) none) Set.univ (.op (.waitDma2 sm src b hsrc hdst) k) Q) := by
  unfold Slot
  rw [if_pos ht]
  iintro ⟨Hc, HO, Hmw⟩ Hk
  ihave HO := (show OwesIn d L O W ⊢ (iprop(∃ W', ⌜∀ p ∈ W', p ∈ W ∨ p.2 = none⌝ ∗ owes (thr d L) O W') : sProp 𝕄) from .rfl) $$ HO
  icases HO with ⟨%W', %hW', HO⟩
  iapply (wp_land d L mem q b sm _) $$ [Hc HO Hmw]
  · isplitl [Hc]; · iexact Hc
    isplitl [HO]; · iexact HO
    iexact Hmw
  iintro ⟨Hf, Hm, Hs, HO⟩
  iapply Hk
  isplitl [Hf]; · iexact Hf
  isplitl [Hm]; · iexact Hm
  isplitl [Hs]; · iexact Hs
  iapply (owesIn_insert d L O W W' hW' (.dma sm)); iexact HO

set_option maxHeartbeats 1000000 in
/-- One trip takes the ring and the registers from trip `t` to the next. -/
theorem chunk_step (w : S16x65536.Idx → F .f32) (mem : S16x65536x64.Idx → F .f32) (q : Shares) (v1 : BitVec 32) (t : Fin k0_t1_loop.trips)
    (O : CellTallies nD τ sig (HIx 1)) (W : Waits sig (HIx 1)) (fw : Buf (Elt F) ((waV).view.loc (thr d L))) (hw : IsW w (bt L) (bs L) fw) :
    iprop(MayWaits (thr d L) (default : HIx 1) O ∗ RingAt d L mem q t.val ∗ ((waV).view.loc (thr d L) ↦{fullShare} fw) ∗ OwesIn d L O W)
      ⊢ (wp frame (wpE (defs₀ (F := F)) 𝒱₀ (thr d L) none) Set.univ (chunk L v1 t (regs (prod w mem (bt L) (bs L)) (64 * (4 * t.val))))
          fun r => iprop(⌜r = regs (prod w mem (bt L) (bs L)) (64 * (4 * (t.val + 1)))⌝ ∗ RingAt d L mem q (t.val + 1)
            ∗ ((waV).view.loc (thr d L) ↦{fullShare} fw) ∗ OwesIn d L O W) : sProp 𝕄) := by
  have ht : t.val < 4 := Nat.lt_of_lt_of_le t.isLt k0_t1_abs.2.1
  unfold chunk k0_t1_body RingAt
  simp only [k0_part45_eq_skeleton]
  unfold k0_part45_skel
  simp only [Prog.lift, Prog.bind_op, Prog.bind_ret, Prog.pure_eq_ret, Prog.bind_assoc]
  iintro ⟨#Hmw, ⟨H0, H1, H2, H3⟩, Hw, HO⟩
  iapply (slot_land d L mem q.q0 b0V cc0_scratch6.sem 0 t.val ht) $$ [H0 HO]
  · isplitl [H0]; · iexact H0
    isplitl [HO]; · iexact HO
    iexact Hmw
  iintro ⟨Hb, Hm, Hs, HO⟩
  ihave Hb := (full_elim d L mem b0V _) $$ Hb
  icases Hb with ⟨%fb0, %hfb0, Hb⟩
  iapply (wp_then d L (loop0 d L t _ _ _ _ _ w mem (bt L) (bs L) fb0 fw hw hfb0)) $$ [Hb Hw]
  · isplitl [Hb]; · iexact Hb
    iexact Hw
  iintro ⟨Hb, Hw⟩
  rw [wp_bind]
  iapply (wp_refill d L mem q.q0 b0V cc0_scratch6.sem 0 t.val (by decide) ht (k0_cond1 t) (cond1_iff t) (k0_off9 L t) _
    ((k0_off9_eq L t).trans (by unfold bs; congr 2; omega))) $$ [Hm Hb Hs]
  · isplitl [Hm]; · iexact Hm
    isplitl [Hb]; · iexists _; iexact Hb
    iexact Hs
  iintro H0
  iapply (slot_land d L mem q.q1 b1V cc0_scratch7.sem 1 t.val ht) $$ [H1 HO]
  · isplitl [H1]; · iexact H1
    isplitl [HO]; · iexact HO
    iexact Hmw
  iintro ⟨Hb, Hm, Hs, HO⟩
  ihave Hb := (full_elim d L mem b1V _) $$ Hb
  icases Hb with ⟨%fb1, %hfb1, Hb⟩
  iapply (wp_then d L (loop1 d L t _ _ _ _ _ w mem (bt L) (bs L) fb1 fw hw hfb1)) $$ [Hb Hw]
  · isplitl [Hb]; · iexact Hb
    iexact Hw
  iintro ⟨Hb, Hw⟩

  iapply (wp_refill d L mem q.q1 b1V cc0_scratch7.sem 1 t.val (by decide) ht (k0_cond2 t) (cond2_iff t) (k0_off15 L t) _
    ((k0_off15_eq L t).trans (by unfold bs; congr 2; omega))) $$ [Hm Hb Hs]
  · isplitl [Hm]; · iexact Hm
    isplitl [Hb]; · iexists _; iexact Hb
    iexact Hs
  iintro H1
  rw [wp_ret]
  imodintro
  iapply (slot_land d L mem q.q2 b2V cc0_scratch8.sem 2 t.val ht) $$ [H2 HO]
  · isplitl [H2]; · iexact H2
    isplitl [HO]; · iexact HO
    iexact Hmw
  iintro ⟨Hb, Hm, Hs, HO⟩
  ihave Hb := (full_elim d L mem b2V _) $$ Hb
  icases Hb with ⟨%fb2, %hfb2, Hb⟩
  iapply (wp_then d L (loop2 d L t _ w mem (bt L) (bs L) fb2 fw hw hfb2)) $$ [Hb Hw]
  · isplitl [Hb]; · iexact Hb
    iexact Hw
  iintro ⟨Hb, Hw⟩

  iapply (wp_refill d L mem q.q2 b2V cc0_scratch8.sem 2 t.val (by decide) ht (k0_cond3 t) (cond3_iff t) (k0_off21 L t) _
    ((k0_off21_eq L t).trans (by unfold bs; congr 2; omega))) $$ [Hm Hb Hs]
  · isplitl [Hm]; · iexact Hm
    isplitl [Hb]; · iexists _; iexact Hb
    iexact Hs
  iintro H2
  iapply (slot_land d L mem q.q3 b3V cc0_scratch9.sem 3 t.val ht) $$ [H3 HO]
  · isplitl [H3]; · iexact H3
    isplitl [HO]; · iexact HO
    iexact Hmw
  iintro ⟨Hb, Hm, Hs, HO⟩
  ihave Hb := (full_elim d L mem b3V _) $$ Hb
  icases Hb with ⟨%fb3, %hfb3, Hb⟩
  iapply (wp_then d L (loop3 d L t _ w mem (bt L) (bs L) fb3 fw hw hfb3)) $$ [Hb Hw]
  · isplitl [Hb]; · iexact Hb
    iexact Hw
  iintro ⟨Hb, Hw⟩

  iapply (wp_refill d L mem q.q3 b3V cc0_scratch9.sem 3 t.val (by decide) ht (k0_cond4 t) (cond4_iff t) (k0_off27 L t) _
    ((k0_off27_eq L t).trans (by unfold bs; congr 2; omega))) $$ [Hm Hb Hs]
  · isplitl [Hm]; · iexact Hm
    isplitl [Hb]; · iexists _; iexact Hb
    iexact Hs
  iintro H3
  sl_step
  isplitr [H0 H1 H2 H3 Hw HO]
  · ipureintro; rfl
  isplitl [H0 H1 H2 H3]
  · isplitl [H0]; · iexact H0
    isplitl [H1]; · iexact H1
    isplitl [H2]; · iexact H2
    iexact H3
  isplitl [Hw]; · iexact Hw
  iexact HO

end Cert.KernelIdeal.Sc

end
-- ==== Proof.Sc.Body.lean ====
/-
  A tile's task, whole: the copy of `w`'s row and the first four copies of `memory`'s rows, the outer loop, the sums of the
  even and the odd rows' registers stored, and their copy to the result's row.
-/
module

public import proofs.«01_k».proof.Proof.Sc.Chunk

@[expose] public section

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

variable (d : Dev nD) (L : grid0.Coords)

/-- What the SparseCores leave in their result: for each half, batch and column the even rows' sum plus the odd rows'. -/
def scOut (w : S16x65536.Idx → F .f32) (mem : S16x65536x64.Idx → F .f32) : S2x16x64.Idx → F .f32 := fun i =>
  FloatOps.addf (chain (fun k => prod w mem (i 1) (61440 + 2048 * (i 0).val) (2 * k + 0) (i 2).val) 1024)
    (chain (fun k => prod w mem (i 1) (61440 + 2048 * (i 0).val) (2 * k + 1) (i 2).val) 1024)

/-- The row of the result a tile writes. -/
abbrev oAt : Memref sig .scVector .hbm S64 .f32 :=
  ((oV).slice (Rect.unit (s := S2x16x64) (k0_off28 L) S1x1x64.size (k0_off28_inb L)) (fun _ => rfl)).squeeze S64 squeezes_S1x1x64_S64

/-! ## The tile's own buffers and cells -/

abbrev cell (d : Dev nD) (L : grid0.Coords) (s : DmaSem sig) : GSem nD τ sig := (thr d L, .dma s)

omit [FloatOps F] in
theorem ref_ne {a b : Ref sig .scVector} (h : a ≠ b) : (Proc.scVector (cV L) (jV L)).devRef a ≠ (Proc.scVector (cV L) (jV L)).devRef b :=
  fun e => h (Proc.devRef_injective _ e)
omit [FloatOps F] in
theorem cell_ne {a b : DmaSem sig} (h : a ≠ b) : cell d L a ≠ cell d L b :=
  fun e => h (SemLoc.dma.inj (Prod.mk.inj e).2)

abbrev restRefs := (((((((ownRefs (τ := τ) (sig := sig) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
abbrev restCells := (((((((ownCells (sig := sig) (thr d L)).erase (cell d L cc0_scratch6.sem)).erase (cell d L cc0_scratch7.sem)).erase (cell d L cc0_scratch8.sem)).erase (cell d L cc0_scratch9.sem)).erase (cell d L cc0_scratch10.sem)).erase (cell d L cc0_scoped0.sem))

/-- The six scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ref_ne L (by decide), (SparseCore.Cfg.mem_ownRefs_of_owner (p := Proc.scVector (cV L) (jV L)) (b := ((Proc.scVector (cV L) (jV L)).devRef cc0_scratch1)) rfl)⟩),
    SparseCore.bigSep_erase' (Finset.mem_erase.mpr ⟨ref_ne L (by decide), (Finset.mem_erase.mpr ⟨ref_ne L (by decide), (SparseCore.Cfg.mem_ownRefs_of_owner (p := Proc.scVector (cV L) (jV L)) (b := ((Proc.scVector (cV L) (jV L)).devRef cc0_scratch2)) rfl)⟩)⟩),
    SparseCore.bigSep_erase' (Finset.mem_erase.mpr ⟨ref_ne L (by decide), (Finset.mem_erase.mpr ⟨ref_ne L (by decide), (Finset.mem_erase.mpr ⟨ref_ne L (by decide), (SparseCore.Cfg.mem_ownRefs_of_owner (p := Proc.scVector (cV L) (jV L)) (b := ((Proc.scVector (cV L) (jV L)).devRef cc0_scratch3)) rfl)⟩)⟩)⟩),
    SparseCore.bigSep_erase' (Finset.mem_erase.mpr ⟨ref_ne L (by decide), (Finset.mem_erase.mpr ⟨ref_ne L (by decide), (Finset.mem_erase.mpr ⟨ref_ne L (by decide), (Finset.mem_erase.mpr ⟨ref_ne L (by decide), (SparseCore.Cfg.mem_ownRefs_of_owner (p := Proc.scVector (cV L) (jV L)) (b := ((Proc.scVector (cV L) (jV L)).devRef cc0_scratch4)) rfl)⟩)⟩)⟩)⟩),
    SparseCore.bigSep_erase' (Finset.mem_erase.mpr ⟨ref_ne L (by decide), (Finset.mem_erase.mpr ⟨ref_ne L (by decide), (Finset.mem_erase.mpr ⟨ref_ne L (by decide), (Finset.mem_erase.mpr ⟨ref_ne L (by decide), (Finset.mem_erase.mpr ⟨ref_ne L (by decide), (SparseCore.Cfg.mem_ownRefs_of_owner (p := Proc.scVector (cV L) (jV L)) (b := ((Proc.scVector (cV L) (jV L)).devRef cc0_scratch5)) rfl)⟩)⟩)⟩)⟩)⟩)]

/-- The six copies' cells are among the subcore's own: they are them, at zero, and the rest. -/
theorem ownSems0_V :
    (ownSems0 (thr d L) : sProp 𝕄)
      = iprop(semVal (thr d L, .dma cc0_scratch6.sem) 0 ∗ semVal (thr d L, .dma cc0_scratch7.sem) 0 ∗ semVal (thr d L, .dma cc0_scratch8.sem) 0 ∗ semVal (thr d L, .dma cc0_scratch9.sem) 0 ∗ semVal (thr d L, .dma cc0_scratch10.sem) 0 ∗ semVal (thr d L, .dma cc0_scoped0.sem) 0
          ∗ bigSep (restCells d L) fun g => semVal g 0) := by
  unfold SparseCore.Cfg.ownSems0
  rw [SparseCore.bigSep_erase' ((mem_ownCells (g := cell d L cc0_scratch6.sem)).mpr ⟨rfl, show (SemLoc.dma cc0_scratch6.sem : SemLoc sig).isScoped .scVector = true by decide⟩),
    SparseCore.bigSep_erase' (Finset.mem_erase.mpr ⟨cell_ne d L (by decide), ((mem_ownCells (g := cell d L cc0_scratch7.sem)).mpr ⟨rfl, show (SemLoc.dma cc0_scratch7.sem : SemLoc sig).isScoped .scVector = true by decide⟩)⟩),
    SparseCore.bigSep_erase' (Finset.mem_erase.mpr ⟨cell_ne d L (by decide), (Finset.mem_erase.mpr ⟨cell_ne d L (by decide), ((mem_ownCells (g := cell d L cc0_scratch8.sem)).mpr ⟨rfl, show (SemLoc.dma cc0_scratch8.sem : SemLoc sig).isScoped .scVector = true by decide⟩)⟩)⟩),
    SparseCore.bigSep_erase' (Finset.mem_erase.mpr ⟨cell_ne d L (by decide), (Finset.mem_erase.mpr ⟨cell_ne d L (by decide), (Finset.mem_erase.mpr ⟨cell_ne d L (by decide), ((mem_ownCells (g := cell d L cc0_scratch9.sem)).mpr ⟨rfl, show (SemLoc.dma cc0_scratch9.sem : SemLoc sig).isScoped .scVector = true by decide⟩)⟩)⟩)⟩),
    SparseCore.bigSep_erase' (Finset.mem_erase.mpr ⟨cell_ne d L (by decide), (Finset.mem_erase.mpr ⟨cell_ne d L (by decide), (Finset.mem_erase.mpr ⟨cell_ne d L (by decide), (Finset.mem_erase.mpr ⟨cell_ne d L (by decide), ((mem_ownCells (g := cell d L cc0_scratch10.sem)).mpr ⟨rfl, show (SemLoc.dma cc0_scratch10.sem : SemLoc sig).isScoped .scVector = true by decide⟩)⟩)⟩)⟩)⟩),
    SparseCore.bigSep_erase' (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), ((mem_ownCells (g := cell d L cc0_scoped0.sem)).mpr ⟨rfl, show (SemLoc.dma cc0_scoped0.sem : SemLoc sig).isScoped .scVector = true by decide⟩)⟩)⟩)⟩)⟩)⟩)]

/-! ## The outer loop -/

theorem outer (w : S16x65536.Idx → F .f32) (mem : S16x65536x64.Idx → F .f32) (q : Shares) (v1 : BitVec 32)
    (O : CellTallies nD τ sig (HIx 1)) (W : Waits sig (HIx 1)) (fw : Buf (Elt F) ((waV).view.loc (thr d L))) (hw : IsW w (bt L) (bs L) fw) :
    iprop(MayWaits (thr d L) (default : HIx 1) O ∗ RingAt d L mem q 0 ∗ ((waV).view.loc (thr d L) ↦{fullShare} fw) ∗ OwesIn d L O W)
      ⊢ (wp frame (wpE (defs₀ (F := F)) 𝒱₀ (thr d L) none) Set.univ
          (Scf.Loop.for k0_t1_loop k0_t1_ok (k0_pay321 (F := F), k0_pay321 (F := F), k0_pay321 (F := F), k0_pay321 (F := F), k0_pay321 (F := F),
            k0_pay321 (F := F), k0_pay321 (F := F), k0_pay321 (F := F)) (chunk L v1))
          fun r => iprop(⌜r = regs (prod w mem (bt L) (bs L)) 1024⌝ ∗ RingAt d L mem q 4
            ∗ ((waV).view.loc (thr d L) ↦{fullShare} fw) ∗ OwesIn d L O W) : sProp 𝕄) := by
  have htr : k0_t1_loop.trips = 4 := by decide +kernel
  refine BIBase.Entails.trans ?_ (Scf.wp_for frame (wpE (defs₀ (F := F)) 𝒱₀ (thr d L) none) Set.univ _ _ _ k0_t1_ok _ _
    (fun k r => iprop(⌜r = regs (prod w mem (bt L) (bs L)) (64 * (4 * k))⌝ ∗ MayWaits (thr d L) (default : HIx 1) O ∗ RingAt d L mem q k
      ∗ ((waV).view.loc (thr d L) ↦{fullShare} fw) ∗ OwesIn d L O W)) ?_)
  · iintro H
    isplitl [H]
    · isplitr [H]
      · ipureintro; rfl
      · iexact H
    · iintro %r ⟨%hr, -, H1, H⟩
      isplitr [H1 H]
      · ipureintro
        rw [hr]
        exact congrArg _ (show 64 * (4 * k0_t1_loop.trips) = 1024 by rw [htr])
      · isplitl [H1]
        · iapply (Entails.of_eq (congrArg (RingAt d L mem q) htr)); iexact H1
        · iexact H
  · intro t a
    iintro ⟨%ha, #Hmw, H⟩
    subst ha
    iapply (wp_wand_r frame (wpE (defs₀ (F := F)) 𝒱₀ (thr d L) none) Set.univ)
    isplitl [H]
    · iapply (chunk_step d L w mem q v1 t O W fw hw)
      isplitr [H]; · iexact Hmw
      iexact H
    · iintro %r ⟨%hr, H⟩
      isplitr [H]
      · ipureintro; exact hr
      · isplitr [H]; · iexact Hmw
        iexact H

/-! ## The sums' way out -/

/-- The even rows' sum plus the odd rows', at a column. -/
def rowSum (w : S16x65536.Idx → F .f32) (mem : S16x65536x64.Idx → F .f32) (b : Fin 16) (base : ℕ) : S64.Idx → F .f32 := fun y =>
  FloatOps.addf (chain (fun k => prod w mem b base (2 * k + 0) (y 0).val) 1024) (chain (fun k => prod w mem b base (2 * k + 1) (y 0).val) 1024)

theorem lanes_sum (w : S16x65536.Idx → F .f32) (mem : S16x65536x64.Idx → F .f32) (b : Fin 16) (base j n : ℕ)
    (inb : ∀ a, (![n] : Fin 1 → ℕ) a + S16.size a ≤ S64.size a) (h : n = 16 * j) (x : S16.Idx) :
    addf (lanes (prod w mem b base) 0 j 1024) (lanes (prod w mem b base) 1 j 1024) x
      = rowSum w mem b base ((Rect.unit (s := S64) ![n] S16.size inb).emb x) := by
  have e : ((Rect.unit (s := S64) ![n] S16.size inb).emb x 0).val = 16 * j + (x 0).val := by
    show n + 1 * (x 0).val = _
    omega
  unfold rowSum
  rw [e]
  rfl

/-- The accumulators' buffer after the four stores. -/
theorem acc_read (w : S16x65536.Idx → F .f32) (mem : S16x65536x64.Idx → F .f32) (b : Fin 16) (base : ℕ) (fac : S64.Idx → F .f32) :
    (acV).view.read (Elt F) ((acV).view.writes (Elt F) fac
      [⟨Rect.unit (s := S64) ![48] S16.size inb_S64_S16_48, addf (lanes (prod w mem b base) 0 3 1024) (lanes (prod w mem b base) 1 3 1024)⟩,
       ⟨Rect.unit (s := S64) ![32] S16.size inb_S64_S16_32, addf (lanes (prod w mem b base) 0 2 1024) (lanes (prod w mem b base) 1 2 1024)⟩,
       ⟨Rect.unit (s := S64) ![16] S16.size inb_S64_S16_16, addf (lanes (prod w mem b base) 0 1 1024) (lanes (prod w mem b base) 1 1 1024)⟩,
       ⟨Rect.unit (s := S64) ![0] S16.size inb_S64_S16_0, addf (lanes (prod w mem b base) 0 0 1024) (lanes (prod w mem b base) 1 0 1024)⟩])
      = rowSum w mem b base := by
  funext y
  refine View.read_writes_apply_of_pieces _ _ _ _ ?_ y (View.cover_of_tiled _ ![16] rfl y)
  intro p hp
  simp only [List.mem_cons, List.not_mem_nil, or_false] at hp
  rcases hp with rfl | rfl | rfl | rfl
  · exact lanes_sum w mem b base 3 48 inb_S64_S16_48 rfl
  · exact lanes_sum w mem b base 2 32 inb_S64_S16_32 rfl
  · exact lanes_sum w mem b base 1 16 inb_S64_S16_16 rfl
  · exact lanes_sum w mem b base 0 0 inb_S64_S16_0 rfl

/-- The result's row read where the tile writes it. -/
theorem scOut_read (w : S16x65536.Idx → F .f32) (mem : S16x65536x64.Idx → F .f32) :
    (oAt L).view.read (Elt F) (scOut w mem) = rowSum w mem (bt L) (bs L) := by
  funext y
  obtain ⟨v, rfl⟩ : ∃ v, y = ix1 v := ⟨_, eq_ix1 y⟩
  have hc : S1x1x64.ShapeCasts S64 := by decide
  show shapeCast S64 ((oV).view.readAt (Elt F) (Rect.unit (s := S2x16x64) (k0_off28 L) S1x1x64.size (k0_off28_inb L)).toLoadRect (scOut w mem)) hc (ix1 v) = _
  refine (shapeCast_apply _ hc (ix1 v) (ix3 0 0 v) (by
    rw [Shape.rowMajor_val_one, Shape.rowMajor_val_three]; simp [ix1, ix3])).trans ?_
  show scOut w mem (fun a => _) = _
  have e0 : ((Rect.unit (s := S2x16x64) (k0_off28 L) S1x1x64.size (k0_off28_inb L)).emb (ix3 0 0 v) 0).val = (L 0).val :=
    (show k0_off28 L 0 + 1 * 0 = _ by rw [k0_off28_eq]; simp)
  have e1 : ((Rect.unit (s := S2x16x64) (k0_off28 L) S1x1x64.size (k0_off28_inb L)).emb (ix3 0 0 v) 1) = bt L :=
    Fin.ext (show k0_off28 L 1 + 1 * 0 = (L 1).val by rw [k0_off28_eq]; simp)
  have e2 : ((Rect.unit (s := S2x16x64) (k0_off28 L) S1x1x64.size (k0_off28_inb L)).emb (ix3 0 0 v) 2).val = v.val :=
    (show k0_off28 L 2 + 1 * v.val = _ by rw [k0_off28_eq]; simp)
  show scOut w mem ((Rect.unit (s := S2x16x64) (k0_off28 L) S1x1x64.size (k0_off28_inb L)).emb (ix3 0 0 v)) = _
  unfold scOut rowSum
  rw [e0, e1, e2]
  rfl

/-- A row holding the two sums is, as far as the tile's part of the result goes, the result. -/
theorem out_congr (w : S16x65536.Idx → F .f32) (mem : S16x65536x64.Idx → F .f32) (fo : S2x16x64.Idx → F .f32) (p : S64.Idx → F .f32)
    (hp : p = rowSum w mem (bt L) (bs L)) :
    ∀ i ∈ (oAt L).view.set, (oAt L).view.writes (Elt F) fo [⟨Rect.whole S64, p⟩] i = scOut w mem i := by
  intro i hi
  obtain ⟨y, rfl⟩ := View.exists_emb_of_mem_set _ hi
  have h1 : (oAt L).view.read (Elt F) ((oAt L).view.writes (Elt F) fo [⟨Rect.whole S64, p⟩]) y = p y := by
    refine (View.read_writes_apply_of_pieces (Val := Elt F) (oAt L).view fo p [⟨Rect.whole S64, p⟩] ?_ y ?_)
    · intro q hq x
      obtain rfl := List.mem_singleton.mp hq
      show p x = p ((Rect.whole S64).emb x)
      rw [Rect.emb_whole_apply]
    · exact ⟨_, List.mem_singleton.mpr rfl, by rw [Rect.set_whole]; exact Finset.mem_univ _⟩
  have h2 := congrFun (scOut_read L w mem) y
  rw [← hp, ← h1] at h2
  exact (cast_inj _).mp h2.symm

theorem out_pts (w : S16x65536.Idx → F .f32) (mem : S16x65536x64.Idx → F .f32) (fo : S2x16x64.Idx → F .f32) (p : S64.Idx → F .f32)
    (hp : p = rowSum w mem (bt L) (bs L)) :
    ((oAt L).view.loc (thr d L) ↦[(oAt L).view.set]{fullShare} (oAt L).view.writes (Elt F) fo [⟨Rect.whole S64, p⟩] : sProp 𝕄)
      = ((oAt L).view.loc (thr d L) ↦[(oAt L).view.set]{fullShare} scOut w mem) :=
  pointsTo_congr (out_congr L w mem fo p hp)

/-! ## The task -/

set_option maxHeartbeats 4000000 in
theorem tile_body (w : S16x65536.Idx → F .f32) (mem : S16x65536x64.Idx → F .f32) (qw : PosShare TreeShare) (q : Shares) (fo : S2x16x64.Idx → F .f32)
    (hF : (K (F := F)).Facts) (O : CellTallies nD τ sig (HIx 1)) (W : Waits sig (HIx 1)) (hO : ∀ g, O g none = 0) :
    iprop(levAts (K (F := F)).L (K (F := F)).lev ∗ emp
        ∗ (((wV).view.loc (thr d L) ↦{qw} w)
          ∗ (((mV).view.loc (thr d L) ↦{q.q0} mem) ∗ ((mV).view.loc (thr d L) ↦{q.q1} mem) ∗ ((mV).view.loc (thr d L) ↦{q.q2} mem) ∗ ((mV).view.loc (thr d L) ↦{q.q3} mem))
          ∗ ((oAt L).view.loc (thr d L) ↦[(oAt L).view.set]{fullShare} fo))
        ∗ scopedBufs (thr d L) ∗ scopedSems0 (thr d L) ∗ owes (thr d L) O W)
      ⊢ (wp frame (wpE (defs₀ (F := F)) 𝒱₀ (thr d L) none) Set.univ
          (cc0__sc_body L wV (Memref.isWhole_whole _) mV (Memref.isWhole_whole _) oV (Memref.isWhole_whole _)
            b0V (Memref.isWhole_whole _) b1V (Memref.isWhole_whole _) b2V (Memref.isWhole_whole _) b3V (Memref.isWhole_whole _)
            waV (Memref.isWhole_whole _) acV (Memref.isWhole_whole _)
            cc0_scratch6 cc0_scratch7 cc0_scratch8 cc0_scratch9 cc0_scratch10 cc0_scoped0)
          fun _ => iprop((((wV).view.loc (thr d L) ↦{qw} w)
              ∗ (((mV).view.loc (thr d L) ↦{q.q0} mem) ∗ ((mV).view.loc (thr d L) ↦{q.q1} mem) ∗ ((mV).view.loc (thr d L) ↦{q.q2} mem) ∗ ((mV).view.loc (thr d L) ↦{q.q3} mem))
              ∗ ((oAt L).view.loc (thr d L) ↦[(oAt L).view.set]{fullShare} scOut w mem))
            ∗ scopedBufs (thr d L) ∗ scopedSems0 (thr d L)
            ∗ OwesIn d L O W) : sProp 𝕄) := by
  simp only [cc0__sc_body_eq_skeleton]; unfold cc0__sc_body_skel
  simp only [k0_part46_eq_skeleton]; unfold k0_part46_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_V, ownBufs_V]
  iintro ⟨#Hlv, -, ⟨Hw, ⟨Hm0, Hm1, Hm2, Hm3⟩, Ho⟩, ⟨H0, H1, H2, H3, ⟨%fwa, Hwa⟩, ⟨%fac, Hac⟩, Hbufs⟩, ⟨Hs0, Hs1, Hs2, Hs3, HsW, HsO, Hsems⟩, HO⟩
  ihave #Hmw := (show levAts (K (F := F)).L (K (F := F)).lev ⊢ MayWaits (thr d L) (default : HIx 1) O from
    (K (F := F)).mayWaits_none (thr := thr d L) hO) $$ Hlv
  iapply (wp_dmaFromWhole countersEmb 𝒱₀ (thr d L) none (default : HIx 1) (waV).view.dmaCredit rfl (View.amount_pos _ (.dma cc0_scratch10.sem) (by decide))
    (Finset.subset_univ _)) $$ [Hw Hwa HsW]
  · isplitl [Hw]; · iexact Hw
    isplitl [Hwa]; · iexact Hwa
    iexact HsW
  iintro HfW
  iapply (wp_start d L mem q.q0 b0V cc0_scratch6.sem (k0_off2 L 0#32) (k0_off2_inb L 0) (bs L + 128 * (4 * 0 + 0)) (by have := bs_le L; omega)
    ((k0_off2_eq L 0).trans (by unfold bs; congr 2; simp; omega))) $$ [Hm0 H0 Hs0]
  · isplitl [Hm0]; · iexact Hm0
    isplitl [H0]; · iexact H0
    iexact Hs0
  iintro H0
  iapply (wp_start d L mem q.q1 b1V cc0_scratch7.sem (k0_off2 L 128#32) (k0_off2_inb L 1) (bs L + 128 * (4 * 0 + 1)) (by have := bs_le L; omega)
    ((k0_off2_eq L 1).trans (by unfold bs; congr 2; simp; omega))) $$ [Hm1 H1 Hs1]
  · isplitl [Hm1]; · iexact Hm1
    isplitl [H1]; · iexact H1
    iexact Hs1
  iintro H1
  iapply (wp_start d L mem q.q2 b2V cc0_scratch8.sem (k0_off2 L 256#32) (k0_off2_inb L 2) (bs L + 128 * (4 * 0 + 2)) (by have := bs_le L; omega)
    ((k0_off2_eq L 2).trans (by unfold bs; congr 2; simp; omega))) $$ [Hm2 H2 Hs2]
  · isplitl [Hm2]; · iexact Hm2
    isplitl [H2]; · iexact H2
    iexact Hs2
  iintro H2
  iapply (wp_start d L mem q.q3 b3V cc0_scratch9.sem (k0_off2 L 384#32) (k0_off2_inb L 3) (bs L + 128 * (4 * 0 + 3)) (by have := bs_le L; omega)
    ((k0_off2_eq L 3).trans (by unfold bs; congr 2; simp; omega))) $$ [Hm3 H3 Hs3]
  · isplitl [Hm3]; · iexact Hm3
    isplitl [H3]; · iexact H3
    iexact Hs3
  iintro H3
  iapply (wp_waitLocalO countersEmb 𝒱₀ (thr d L) none (default : HIx 1) rfl) $$ [HfW HO]
  · isplitl [HfW]; · iexact HfW
    isplitl [HO]; · iexact HO
    iapply (MayWaits.elim (SemLoc.dma cc0_scratch10.sem)) $$ Hmw
  iintro ⟨⟨Hwa, Hw⟩, HsW, HO⟩
  have hw : IsW w (bt L) (bs L) (View.write (Elt F) (waV).view fwa ((wAt (k0_off1 L) (k0_off1_inb L)).view.read (Elt F) w) Finset.univ) := by
    rw [View.write_whole_univ]
    exact isW_wAt w (bt L) (bs L) (bs_le L) _ _ ((k0_off1_eq L).trans (by unfold bs bt; congr 2; omega))
  ihave HO := (owesIn_insert (F := F) d L O W W (fun p hp => .inl hp) (.dma cc0_scratch10.sem)) $$ HO
  iapply (wp_then d L (outer d L w mem q _ O W _ hw)) $$ [Hmw H0 H1 H2 H3 Hwa HO]
  · isplitr [H0 H1 H2 H3 Hwa HO]; · iexact Hmw
    isplitl [H0 H1 H2 H3]
    · unfold RingAt Slot
      simp only [show (0 : ℕ) < 4 from by decide, if_true]
      isplitl [H0]; · iexact H0
      isplitl [H1]; · iexact H1
      isplitl [H2]; · iexact H2
      iexact H3
    isplitl [Hwa]; · iexact Hwa
    iexact HO
  iintro ⟨HR, Hwa, HO⟩
  ihave HO := (show OwesIn d L O W ⊢ (iprop(∃ W', ⌜∀ p ∈ W', p ∈ W ∨ p.2 = (default : HIx 1)⌝ ∗ owes (thr d L) O W') : sProp 𝕄) from .rfl) $$ HO
  icases HO with ⟨%W', %hW', HO⟩
  ihave Hac := (show _ ⊢ iprop(((acV).view.loc (thr d L) ↦{fullShare} fac) : sProp 𝕄) from .rfl) $$ Hac
  ihave Ho := (show _ ⊢ iprop(((oAt L).view.loc (thr d L) ↦[(oAt L).view.set]{fullShare} fo) : sProp 𝕄) from .rfl) $$ Ho
  sl_exec
  ihave HO := (owesIn_insert (F := F) d L O W W' hW' (.dma ⟨5, _⟩)) $$ HO
  ihave Ho := (Entails.of_eq (out_pts d L w mem fo (tile_body.sl.dma8 d L w mem fac) (acc_read w mem (bt L) (bs L) fac))) $$ Ho
  unfold RingAt Slot
  simp only [show ¬ (4 : ℕ) < 4 from by decide, if_false]
  icases HR with ⟨⟨Hm0, H0, Hs0⟩, ⟨Hm1, H1, Hs1⟩, ⟨Hm2, H2, Hs2⟩, Hm3, H3, Hs3⟩
  rw [wp_ret]; imodintro
  isplitl [Hw Hm0 Hm1 Hm2 Hm3 Ho]
  · isplitl [Hw]; · iexact Hw
    isplitr [Ho]
    · isplitl [Hm0]; · iexact Hm0
      isplitl [Hm1]; · iexact Hm1
      isplitl [Hm2]; · iexact Hm2
      iexact Hm3
    · iexact Ho
  isplitl [H0 H1 H2 H3 Hwa Hac Hbufs]
  · isplitl [H0]; · iexact H0
    isplitl [H1]; · iexact H1
    isplitl [H2]; · iexact H2
    isplitl [H3]; · iexact H3
    isplitl [Hwa]; · iexists _; iexact Hwa
    isplitl [Hac]; · iexists _; iexact Hac
    iexact Hbufs
  isplitr [HO]
  · isplitl [Hs0]; · iexact Hs0
    isplitl [Hs1]; · iexact Hs1
    isplitl [Hs2]; · iexact Hs2
    isplitl [Hs3]; · iexact Hs3
    isplitl [HsW]; · iexact HsW
    isplitl [HsO]; · iexact HsO
    iexact Hsems
  · iexact HO

end Cert.KernelIdeal.Sc

end
-- ==== Proof.Sc.Launch.lean ====
/-
  What the SparseCore call's handshakes carry: each tile goes out with a read share of `w`, four of `memory` and its own row of
  the result, and comes back with the row computed; the tile's obligation; and the buffers dealt to the tiles and joined again.
-/
module

public import proofs.«01_k».proof.Proof.Sc.Body

@[expose] public section

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

variable (m : (ℓ : Loc nD τ sig) → Buf (Elt F) ℓ)

abbrev wLoc (d : Dev nD) : Loc nD τ sig := (SparseCore.T d).loc main_arg0
abbrev mLoc (d : Dev nD) : Loc nD τ sig := (SparseCore.T d).loc main_arg1
abbrev oLoc (d : Dev nD) : Loc nD τ sig := (SparseCore.T d).loc main_v0

/-! ## A tile's share of the operands and its row of the result -/

def coordsV (c : Fin (grid0.bound 0)) (s : Fin (grid0.bound 1)) : grid0.Coords :=
  fun | 0 => c | 1 => s | ⟨_ + 2, h⟩ => absurd h (Nat.not_lt.2 (Nat.le_add_left _ _))

/-- A tile's read share of an operand: the full share dealt between the SparseCores, each half among its tiles. -/
def tileShare (c : Fin 2) (i : Fin 16) : PosShare TreeShare :=
  dealOf (dealOf fullShare (Finset.univ : Finset (Fin 2)) c) (Finset.univ : Finset (Fin 16)) i

/-- The four parts of a tile's share, one for each buffer of its ring. -/
def ringShare (c : Fin 2) (i : Fin 16) : Shares where
  q0 := dealOf (tileShare c i) (Finset.univ : Finset (Fin 4)) 0
  q1 := dealOf (tileShare c i) (Finset.univ : Finset (Fin 4)) 1
  q2 := dealOf (tileShare c i) (Finset.univ : Finset (Fin 4)) 2
  q3 := dealOf (tileShare c i) (Finset.univ : Finset (Fin 4)) 3

/-- The elements of the result a tile writes. -/
abbrev rowSet (c : Fin 2) (i : Fin 16) : Finset S2x16x64.Idx := (oAt (coordsV c i)).view.set

/-- What a tile holds of the call's operands and result, the result's row at `g`. -/
def tileRes (d : Dev nD) (g : Buf (Elt F) (oLoc d)) (c : Fin 2) (i : Fin 16) : sProp 𝕄 :=
  iprop((wLoc d ↦{tileShare c i} m (wLoc d))
    ∗ ((mLoc d ↦{(ringShare c i).q0} m (mLoc d)) ∗ (mLoc d ↦{(ringShare c i).q1} m (mLoc d))
      ∗ (mLoc d ↦{(ringShare c i).q2} m (mLoc d)) ∗ (mLoc d ↦{(ringShare c i).q3} m (mLoc d)))
    ∗ (oLoc d ↦[rowSet c i]{fullShare} g))

theorem mem_rowSet (c : Fin 2) (i : Fin 16) (x : S2x16x64.Idx) : x ∈ rowSet c i ↔ x 0 = c ∧ x 1 = i := by
  have e : rowSet c i = (Rect.unit (s := S2x16x64) (k0_off28 (coordsV c i)) S1x1x64.size (k0_off28_inb (coordsV c i))).set := by
    show (((oV).view.slice (Rect.unit (s := S2x16x64) (k0_off28 (coordsV c i)) S1x1x64.size (k0_off28_inb (coordsV c i)))).reshape S64 _).set = _
    rw [View.set_reshape]
    show ((View.whole (main_v0_scv : Ref sig .scVector)).slice _).set = _
    rw [View.set_slice]; exact Finset.map_refl
  rw [e, Rect.mem_set_unit]
  have h := k0_off28_eq (coordsV c i)
  constructor
  · intro H
    have H0 := H 0; have H1 := H 1
    rw [h] at H0 H1
    exact ⟨Fin.ext (by have : (coordsV c i 0).val = c.val := rfl
                       have h2 : (x 0).val < c.val + 1 := H0.2
                       have h1 : c.val ≤ (x 0).val := H0.1
                       omega),
      Fin.ext (by have h2 : (x 1).val < i.val + 1 := H1.2
                  have h1 : i.val ≤ (x 1).val := H1.1
                  omega)⟩
  · rintro ⟨rfl, rfl⟩ a
    rw [h]
    match a with
    | 0 => exact ⟨Nat.le_refl _, Nat.lt_succ_self _⟩
    | 1 => exact ⟨Nat.le_refl _, Nat.lt_succ_self _⟩
    | 2 => exact ⟨Nat.zero_le _, by have := (x 2).isLt; show (x 2).val < 0 + 64; exact (Nat.zero_add 64).symm ▸ this⟩

/-- The result is its rows. -/
theorem out_rows (d : Dev nD) (g : Buf (Elt F) (oLoc d)) :
    (oLoc d ↦{fullShare} g : sProp 𝕄)
      = bigSep Finset.univ fun c : Fin 2 => bigSep Finset.univ fun i : Fin 16 => oLoc d ↦[rowSet c i]{fullShare} g := by
  rw [← bigSep_univ_prod (fun p : Fin 2 × Fin 16 => (oLoc d ↦[rowSet p.1 p.2]{fullShare} g : sProp 𝕄)),
    ← pointsTo_biUnion Finset.univ (ℓ := oLoc d) (fun p : Fin 2 × Fin 16 => rowSet p.1 p.2) (by
      rintro ⟨c, i⟩ - ⟨c', i'⟩ - hne
      refine Finset.disjoint_left.mpr fun x hx hx' => hne ?_
      obtain ⟨h0, h1⟩ := (mem_rowSet c i x).mp hx
      obtain ⟨h0', h1'⟩ := (mem_rowSet c' i' x).mp hx'
      rw [← h0, ← h0', ← h1, ← h1'])]
  have hU : (Finset.univ.biUnion fun p : Fin 2 × Fin 16 => rowSet p.1 p.2) = (Finset.univ : Finset S2x16x64.Idx) :=
    Finset.eq_univ_iff_forall.mpr fun x => Finset.mem_biUnion.mpr
      ⟨(x 0, x 1), Finset.mem_univ _, (mem_rowSet (x 0) (x 1) x).mpr ⟨rfl, rfl⟩⟩
  exact (congrArg (fun S : Finset S2x16x64.Idx => (oLoc d ↦[S]{fullShare} g : sProp 𝕄)) hU).symm

/-- A buffer held whole is the tiles' shares of it. -/
theorem shares {ℓ : Loc nD τ sig} (f : Buf (Elt F) ℓ) :
    (ℓ ↦{fullShare} f : sProp 𝕄)
      = bigSep Finset.univ fun c : Fin 2 => bigSep Finset.univ fun i : Fin 16 => ℓ ↦{tileShare c i} f :=
  (pointsTo_deal (S := Finset.univ) (Finset.univ : Finset (Fin 2)) Finset.univ_nonempty fullShare).trans
    (bigSep_congr fun c _ => pointsTo_deal (S := Finset.univ) (Finset.univ : Finset (Fin 16)) Finset.univ_nonempty _)

/-- A tile's share is its four parts. -/
theorem ring_shares {ℓ : Loc nD τ sig} (f : Buf (Elt F) ℓ) (c : Fin 2) (i : Fin 16) :
    (ℓ ↦{tileShare c i} f : sProp 𝕄)
      = iprop((ℓ ↦{(ringShare c i).q0} f) ∗ (ℓ ↦{(ringShare c i).q1} f) ∗ (ℓ ↦{(ringShare c i).q2} f) ∗ ℓ ↦{(ringShare c i).q3} f) := by
  rw [pointsTo_deal (S := Finset.univ) (Finset.univ : Finset (Fin 4)) Finset.univ_nonempty (tileShare c i),
    show (Finset.univ : Finset (Fin 4)) = {0, 1, 2, 3} by decide,
    SparseCore.bigSep_insert' (by decide), SparseCore.bigSep_insert' (by decide), SparseCore.bigSep_insert' (by decide), bigSep_singleton]
  rfl

/-- The two operands and the result, held whole, are what the tiles hold. -/
theorem tileRes_all (d : Dev nD) (g : Buf (Elt F) (oLoc d)) :
    (bigSep Finset.univ fun c : Fin 2 => bigSep Finset.univ fun i : Fin 16 => tileRes m d g c i)
      = (iprop((wLoc d ↦{fullShare} m (wLoc d)) ∗ (mLoc d ↦{fullShare} m (mLoc d)) ∗ oLoc d ↦{fullShare} g) : sProp 𝕄) := by
  rw [shares (m (wLoc d)), shares (m (mLoc d)), out_rows d g, ← bigSep_sep', ← bigSep_sep']
  refine bigSep_congr fun c _ => ?_
  rw [← bigSep_sep', ← bigSep_sep']
  refine bigSep_congr fun i _ => ?_
  rw [ring_shares (m (mLoc d)) c i]
  rfl

/-! ## What the handshakes carry -/

/-- The result a device's SparseCores leave. -/
abbrev scRes (d : Dev nD) : Buf (Elt F) (oLoc d) := scOut (m (wLoc d)) (m (mLoc d))

/-- The call takes its tiles' resources core by core and brings them back, the result's rows computed. -/
def P : (K (F := F)).Pay (nD := nD) (Val := Elt F) (Name := ℕ) (U := UU) where
  st := fun q d c => match q with
    | 0 => bigSep Finset.univ fun i : Fin 16 => tileRes m d (m (oLoc d)) (Fin.cast nCore_zero c) i
  dn := fun q d c => match q with
    | 0 => bigSep Finset.univ fun i : Fin 16 => tileRes m d (scRes m d) (Fin.cast nCore_zero c) i
  go := fun q d c i => match q with
    | 0 => tileRes m d (m (oLoc d)) (Fin.cast nCore_zero c) (Fin.cast nSub_zero i)
  td := fun q d c i => match q with
    | 0 => tileRes m d (scRes m d) (Fin.cast nCore_zero c) (Fin.cast nSub_zero i)
  x := fun _ _ => iprop(emp)

instance tileRes_storable (d : Dev nD) (g : Buf (Elt F) (oLoc d)) (c : Fin 2) (i : Fin 16) :
    BI.Storable (upEmb : UEmb _ 𝕄) (tileRes m d g c i) := by
  unfold tileRes; infer_instance

instance P_storable : (P (F := F) m).IsStorable where
  st q d c := match q with
    | 0 => (inferInstance : BI.Storable (upEmb : UEmb _ 𝕄) (bigSep Finset.univ fun i : Fin 16 => tileRes m d (m (oLoc d)) (Fin.cast nCore_zero c) i))
  dn q d c := match q with
    | 0 => (inferInstance : BI.Storable (upEmb : UEmb _ 𝕄) (bigSep Finset.univ fun i : Fin 16 => tileRes m d (scRes m d) (Fin.cast nCore_zero c) i))
  go q d c i := match q with
    | 0 => (inferInstance : BI.Storable (upEmb : UEmb _ 𝕄) (tileRes m d (m (oLoc d)) (Fin.cast nCore_zero c) (Fin.cast nSub_zero i)))
  td q d c i := match q with
    | 0 => (inferInstance : BI.Storable (upEmb : UEmb _ 𝕄) (tileRes m d (scRes m d) (Fin.cast nCore_zero c) (Fin.cast nSub_zero i)))

/-- A SparseCore's resources are its tiles', out and back. -/
theorem vecSplit : (K (F := F)).VecSplit' (P m) 0 := by
  intro d c
  show (bigSep Finset.univ fun i : Fin 16 => tileRes m d (m (oLoc d)) (Fin.cast nCore_zero c) i)
    ⊢ |={Set.univ}=> iprop((bigSep Finset.univ fun i : Fin 16 => tileRes m d (m (oLoc d)) (Fin.cast nCore_zero c) i)
      ∗ ((bigSep Finset.univ fun i : Fin 16 => tileRes m d (scRes m d) (Fin.cast nCore_zero c) i)
        -∗ bigSep Finset.univ fun i : Fin 16 => tileRes m d (scRes m d) (Fin.cast nCore_zero c) i))
  iintro H; imodintro
  isplitl [H]; · iexact H
  iintro H; iexact H

/-! ## The tile's obligation -/

theorem defs₀_vector (c : Fin τ.nSC) (s : Fin τ.nSub) :
    defs₀ (F := F) (.scVector c s) 0 ()
      = SparseCore.onTile hcore0 hsub0 (fun c s => cc0__sc_body (coordsV c s)
          wV (Memref.isWhole_whole _) mV (Memref.isWhole_whole _) oV (Memref.isWhole_whole _)
          b0V (Memref.isWhole_whole _) b1V (Memref.isWhole_whole _) b2V (Memref.isWhole_whole _) b3V (Memref.isWhole_whole _)
          waV (Memref.isWhole_whole _) acV (Memref.isWhole_whole _)
          cc0_scratch6 cc0_scratch7 cc0_scratch8 cc0_scratch9 cc0_scratch10 cc0_scoped0) ⟨⟩ c s := rfl

theorem obl_post (d : Dev nD) (L : grid0.Coords) {A B C : sProp 𝕄} {O : CellTallies nD τ sig (HIx 1)} {W : Waits sig (HIx 1)} {q : Fin 1} :
    iprop(A ∗ B ∗ C ∗ OwesIn (F := F) d L O W)
      ⊢ (iprop(A ∗ B ∗ C ∗ ∃ W', ⌜∀ p ∈ W', p ∈ W ∨ p.2 = none ∨ p.2 = some q⌝ ∗ owes (thr d L) O W') : sProp 𝕄) := by
  unfold OwesIn
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact BIBase.Entails.trans (tile_body d (coordsV ⟨_, hci.1⟩ ⟨_, hci.2⟩) (m (wLoc d)) (m (mLoc d)) (tileShare ⟨_, hci.1⟩ ⟨_, hci.2⟩) (ringShare ⟨_, hci.1⟩ ⟨_, hci.2⟩)
    (m (oLoc d)) facts O W hO) (wp_mono frame _ _ fun _ => obl_post d (coordsV ⟨_, hci.1⟩ ⟨_, hci.2⟩))

end Cert.KernelIdeal.Sc

end
-- ==== Proof.Tc.Region.lean ====
/-
  The TensorCore call as one step of @main: from every buffer held, to every buffer held with the result array at what the
  grid leaves; and the ghost state the launch deals the two calls' protocols.
-/
module

public import proofs.«01_k».proof.Proof.Tc.Data
public import proofs.«01_k».proof.Proof.Sc.Launch
public import proofs.«01_k».proof.Proof.Gen.KernelIdeal.Launch
public import Idealize.ShloMosaic.Lib.Pipeline.RegionArraysS
public import Idealize.ShloMosaic.Lib.Pipeline.Sound

@[expose] public section

set_option maxRecDepth 16384

noncomputable section

namespace Cert.KernelIdeal.Tc

open Cert.KernelIdeal Cert.KernelIdeal.Gen Cert.KernelIdeal.Sc

open Idealize.ShloMosaic Idealize.ShloMosaic.TcCoe
open Idealize.ShloMosaic.SparseCore (T)
open Idealize.ShloMosaic.SparseCore.Cfg (HIx)
open Idealize.ShloMosaic.Pipeline (Dat RegionSeg LevelCut ucRefs afterRegion arrRefs pin cellsGhost toksInit)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The ghost state's parts -/

/-- The handshakes' rounds, and the pipeline's. -/
abbrev EH : Emb UH 𝕄 := embL
abbrev EP : Emb UP 𝕄 := (Emb.inl : Emb UP (UP × Counters)).trans embR

abbrev adm (p : Fin 1) : (pcfgs (F := F) p).Adm := (cfgs p).toPCfg_adm

theorem cells_inj : Function.Injective (Pipeline.cellOf (nD := nD) (τ := τ) (pin (pcfgs (F := F)) adm)) :=
  ((launch1).toP).cellOf_inj adm

/-- What the launch deals a device for the pipeline's cells. -/
def deal (d : Dev nD) : sProp 𝕄 :=
  iprop(cellsGhost (pin (pcfgs (F := F)) adm) EP 0 d ∗ toksInit (pin (pcfgs (F := F)) adm) EP 0 d)

/-- The launch's ghost element. -/
def u₀ : UU :=
  (initOf (K (F := F)).hsCells (K (F := F)).hsToks,
    (initOf (Pipeline.cells (pin (pcfgs (F := F)) adm) cells_inj) (Pipeline.launchToks (pin (pcfgs (F := F)) adm) cells_inj), 1))

/-- It is the handshakes' launch state and every device's share. -/
theorem hu₀ (m : (ℓ : Loc nD τ sig) → Buf (Elt F) ℓ) : (ownU (u₀ (F := F)) : sProp 𝕄)
    ⊢ |={Set.univ}=> iprop(BI.own (EH (initOf (K (F := F)).hsCells (K (F := F)).hsToks)) ∗ (bigSep Finset.univ fun d : Dev nD => deal (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb embR _ (1 : Counters)) $$ HR
  icases H with ⟨HP, -⟩
  imod (Pipeline.fund_ghost (pin (pcfgs (F := F)) adm) EP cells_inj) $$ HP with ⟨Hg, Ht⟩
  imodintro
  isplitl [HH]; · iexact HH
  isplitl [Hg Ht]
  · rw [show (bigSep Finset.univ fun d : Dev nD => deal (F := F) d)
        = (iprop((bigSep Finset.univ fun c : Dev nD => bigSep Finset.univ fun p => cellsGhost (pin (pcfgs (F := F)) adm) EP p c)
            ∗ (bigSep Finset.univ fun c : Dev nD => bigSep Finset.univ fun p => toksInit (pin (pcfgs (F := F)) adm) EP p c)) : sProp 𝕄) from by
      rw [← bigSep_sep']
      refine bigSep_congr fun d _ => ?_
      rw [bigSep_univ_of_subsingleton (0 : Fin 1), bigSep_univ_of_subsingleton (0 : Fin 1)]
      rfl]
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-! ## The call -/

variable (V : Dev nD → Valuation τ sig (Elt F))

abbrev dats (p : Fin 1) (c : Dev nD) : Dat τ (Elt F) (HIx 1) ℕ UU ℕ (pin (pcfgs (F := F)) adm p) c := match p with
  | 0 => dat V c

theorem cut : LevelCut (nD := nD) (τ := τ) (pcfgs (F := F)) adm (none : HIx 1) (K (F := F)).L (K (F := F)).lev 0 (fun _ => 0) (fun _ => 0) where
  hι _ _ _ := Finset.mem_univ _
  hιb _ _ _ := le_of_eq rfl
  hD _ _ _ h := absurd h (Nat.lt_irrefl 0)

/-- Every buffer of @main's, held at `V`; and the call owing nothing. -/
def region : RegionSeg (pcfgs (F := F)) adm (dats V) (none : HIx 1) defs₀ 𝒱₀ (K (F := F)).L (K (F := F)).lev 0 :=
  RegionSeg.ofHeldIn (pcfgs (F := F)) adm (dats V) (none : HIx 1) defs₀ 𝒱₀ (K (F := F)).L (K (F := F)).lev 0 (fun _ => 0) (ucRefs τ sig)
    (fun _ => iprop(emp)) (fun _ => iprop(emp)) (launch1).toP rfl
    (fun c => (obligation V c).loose) (fun _ _ => rfl) (fun _ => rfl)
    (fun c => (dat V c).share_full fun _ => rfl)
    (fun c => (sep_elim_left : iprop(Pipeline.scopedRest spec1 c ∗ emp) ⊢ (Pipeline.scopedRest spec1 c : sProp 𝕄)))
    (fun c => show (Pipeline.scopedRest spec1 c : sProp 𝕄) ⊢ iprop(Pipeline.scopedRest spec1 c ∗ emp) by
      iintro H
      isplitl; · iexact H
      iempintro)
    (fun _ => 0) cut (fun _ => iprop(emp)) V (fun c w => A_eq V c w)

theorem arrs_sub : arrRefs (τ := τ) (pcfgs (F := F) 0).spec ⊆ ucRefs τ sig :=
  Pipeline.arrRefs_sub_ucRefs spec1 (by decide)

theorem region_pre (d : Dev nD) :
    iprop(held (d.tc : Thread nD τ) (ucRefs τ sig) (V d) ∗ ((∃ W, owes (d.tc : Thread nD τ) 0 W) ∗ emp ∗ emp)) ⊢ ((region V).pre d : sProp 𝕄) := by
  unfold region
  exact RegionSeg.ofHeldIn_pre (pcs := pcfgs (F := F)) (a := adm) (pdats := dats V) (ι := (none : HIx 1)) (p := 0) (D := fun _ => 0) arrs_sub
    (X := fun _ => iprop(emp)) (Y := fun _ => iprop(emp)) (R := fun _ => iprop(emp)) (W := V) d

theorem region_post (d : Dev nD) : ((region V).post d : sProp 𝕄)
    ⊢ iprop(held (d.tc : Thread nD τ) (ucRefs τ sig) (afterRegion (dat V d) (V d)) ∗ ((∃ W, owes (d.tc : Thread nD τ) 0 W) ∗ emp ∗ emp)) := by
  unfold region
  exact RegionSeg.ofHeldIn_post (pcs := pcfgs (F := F)) (a := adm) (pdats := dats V) (ι := (none : HIx 1)) (p := 0) (D := fun _ => 0) arrs_sub
    (X := fun _ => iprop(emp)) (Y := fun _ => iprop(emp)) (R := fun _ => iprop(emp)) (W := V) d

/-- The same step under the program's own body table, with the continuation `k`. -/
theorem step₀ (d : Dev nD) {α : Type} (k : PUnit → Prog (TpuEff nD τ sig (Elt F) (ΛP (F := F)) .tc) α) (Φ : α → sProp 𝕄) :
    iprop((iprop(boundary (d.tc : Thread nD τ) ∗ (region V).post d) -∗ wp frame (wpE (D (F := F)) 𝒱 (d.tc : Thread nD τ) none) Set.univ (k ⟨⟩) Φ)
        ∗ boundary (d.tc : Thread nD τ) ∗ (region V).pre d ∗ levAts (K (F := F)).L (K (F := F)).lev
        ∗ cellsGhost (pin (pcfgs (F := F)) adm) EP 0 d ∗ toksInit (pin (pcfgs (F := F)) adm) EP 0 d)
      ⊢ wp frame (wpE (D (F := F)) 𝒱 (d.tc : Thread nD τ) none) Set.univ (.op (.customCall (Pipeline.entry 0) ()) k) Φ :=
  RegionSeg.wp (pcfgs (F := F)) adm (dats V) (none : HIx 1) cells_inj EP defs₀ 𝒱₀ (K (F := F)).L (K (F := F)).lev
    (region V) d none (fun _ h => nomatch h) k Φ

/-- The call as @main writes it is the program's own call, lifted. -/
theorem call_eq : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret : Prog (TpuEff nD τ sig (Elt F) (ΛP (F := F)) .tc) PUnit) := rfl

/-- The call's step: from the boundary and every buffer at `V`, to every buffer at `V` with the result array replaced. -/
theorem step (κ : GSem nD τ sig → ℕ) (m : (ℓ : Loc nD τ sig) → Buf (Elt F) ℓ) (d : Dev nD) (Φ : PUnit → sProp 𝕄) :
    iprop((K (F := F)).ctx EH (P m) κ ∗ deal d ∗ (boundary (T d) ∗ held (T d) (ucRefs τ sig) (V d) ∗ ∃ W, owes (T d) 0 W)
        ∗ ((boundary (T d) ∗ held (T d) (ucRefs τ sig) (afterRegion (dat V d) (V d)) ∗ ∃ W, owes (T d) 0 W) -∗ Φ ⟨⟩))
      ⊢ wp frame (wpE ((K (F := F)).defs (D (F := F))) 𝒱 (T d) none) Set.univ
          (Prog.lift (.customCall (SparseCore.inner (Pipeline.entry 0)) ())) Φ := by
  rw [call_eq]
  refine BIBase.Entails.trans ?_ ((K (F := F)).wp_liftProg (D (F := F)) 𝒱 (T d) Set.univ none _ Φ)
  refine BIBase.Entails.trans ?_ (step₀ V d .ret Φ)
  unfold deal
  iintro ⟨#Hctx, ⟨Hg, Ht⟩, ⟨Hb, Hh, HO⟩, Hk⟩
  isplitl [Hk]
  · iintro ⟨Hb, Hp⟩
    ihave Hp := (region_post V d) $$ Hp
    icases Hp with ⟨Hh, HO, -, -⟩
    rw [wp_ret]; imodintro
    iapply Hk
    isplitl [Hb]; · iexact Hb
    isplitl [Hh]; · iexact Hh
    iexact HO
  isplitl [Hb]; · iexact Hb
  isplitl [Hh HO]
  · iapply (region_pre V d)
    isplitl [Hh]; · iexact Hh
    isplitl [HO]; · iexact HO
    isplitr <;> iempintro
  isplitr
  · iapply (SparseCore.Cfg.ctx_levAts κ) $$ Hctx
  isplitl [Hg]; · iexact Hg
  iexact Ht

end Cert.KernelIdeal.Tc

end
-- ==== Proof.Run.lean ====
/-
  The whole program's run: @main on the TensorCore — the SparseCore call, the weights' slice and reshape, the TensorCore
  call, the three parts added — beside the SparseCores' threads; both arguments are kept and the result is `outVal`.
-/
module

public import proofs.«01_k».proof.Proof.Tc.Region
public import Idealize.ShloMosaic.Lib.StableHlo.Run
public import Idealize.ShloMosaic.Lib.Pipeline.Frame

@[expose] public section

set_option maxRecDepth 16384

noncomputable section

namespace Cert.KernelIdeal.Whole

open Cert.KernelIdeal Cert.KernelIdeal.Gen Cert.KernelIdeal.Sc Cert.KernelIdeal.Tc

open Idealize.ShloMosaic Idealize.ShloMosaic.TcCoe
open Idealize.ShloMosaic.SparseCore (T)
open Idealize.ShloMosaic.SparseCore.Cfg (HIx)
open Idealize.ShloMosaic.Pipeline (ucRefs afterRegion)
open Idealize.ShloMosaic.StableHlo (held after seq)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## @main's operations between the calls -/

/-- The TensorCore call's operand: the first 61440 columns of the weights, in blocks of 4096. -/
def before : List (HloOp τ sig (Elt F)) :=
  [StableHlo.unary main_arg0 main_v1 ((extractStridedSlice S16x61440 ![0, 0] · slices_S16x65536_S16x61440_0_0) : (⟨S16x65536, .f32⟩ : BufTy).Contents (Elt F) → (⟨S16x61440, .f32⟩ : BufTy).Contents (Elt F)),
   StableHlo.reshape main_v1 main_v2 (rfl : (.f32 : EltTy) = .f32) shapeCasts_S16x61440_S240x1x4096]

/-- The TensorCore's part and the two SparseCores' parts added, in the result's shape. -/
def later : List (HloOp τ sig (Elt F)) :=
  [StableHlo.reshape main_v3 main_v4 (rfl : (.f32 : EltTy) = .f32) shapeCasts_S16x1x64_S16x64,
   StableHlo.unary main_v0 main_v5 ((extractStridedSlice S1x16x64 ![0, 0, 0] · slices_S2x16x64_S1x16x64_0_0_0) : (⟨S2x16x64, .f32⟩ : BufTy).Contents (Elt F) → (⟨S1x16x64, .f32⟩ : BufTy).Contents (Elt F)),
   StableHlo.reshape main_v5 main_v6 (rfl : (.f32 : EltTy) = .f32) shapeCasts_S1x16x64_S16x64,
   StableHlo.binary main_v4 main_v6 main_v7 (addf : (⟨S16x64, .f32⟩ : BufTy).Contents (Elt F) → (⟨S16x64, .f32⟩ : BufTy).Contents (Elt F) → (⟨S16x64, .f32⟩ : BufTy).Contents (Elt F)),
   StableHlo.unary main_v0 main_v8 ((extractStridedSlice S1x16x64 ![1, 0, 0] · slices_S2x16x64_S1x16x64_1_0_0) : (⟨S2x16x64, .f32⟩ : BufTy).Contents (Elt F) → (⟨S1x16x64, .f32⟩ : BufTy).Contents (Elt F)),
   StableHlo.reshape main_v8 main_v9 (rfl : (.f32 : EltTy) = .f32) shapeCasts_S1x16x64_S16x64,
   StableHlo.binary main_v7 main_v9 main_v10 (addf : (⟨S16x64, .f32⟩ : BufTy).Contents (Elt F) → (⟨S16x64, .f32⟩ : BufTy).Contents (Elt F) → (⟨S16x64, .f32⟩ : BufTy).Contents (Elt F)),
   StableHlo.unary main_v10 main_v11 (broadcastInDim S16x1x1x64 ![0, 3] bcast_S16x64_S16x1x1x64_0_3 : (⟨S16x64, .f32⟩ : BufTy).Contents (Elt F) → (⟨S16x1x1x64, .f32⟩ : BufTy).Contents (Elt F))]

theorem main_eq (d : Dev nD) : main (F := F) d = (sc.run d 0 >>= fun _ => seq before >>= fun _ =>
    Prog.lift (.customCall (SparseCore.inner (Pipeline.entry 0)) ()) >>= fun _ => seq later >>= fun _ => pure ⟨⟩) := rfl

theorem uc (x : Ref sig .tc) (h : x.isScoped = false) : (Proc.devRef .tc x : DevRef τ sig) ∈ ucRefs τ sig :=
  Finset.mem_filter.mpr ⟨StableHlo.devRef_mem_tcRefs _, fun h' => Bool.false_ne_true (h.symm.trans h')⟩
theorem two (x y : Ref sig .tc) (hx : x.isScoped = false) (hy : y.isScoped = false) :
    ({Proc.devRef .tc x, Proc.devRef .tc y} : Finset (DevRef τ sig)) ⊆ ucRefs τ sig := by
  intro b hb
  rcases Finset.mem_insert.mp hb with rfl | hb
  · exact uc x hx
  · rw [Finset.mem_singleton.mp hb]; exact uc y hy
theorem three (x y z : Ref sig .tc) (hx : x.isScoped = false) (hy : y.isScoped = false) (hz : z.isScoped = false) :
    ({Proc.devRef .tc x, Proc.devRef .tc y, Proc.devRef .tc z} : Finset (DevRef τ sig)) ⊆ ucRefs τ sig := by
  intro b hb
  rcases Finset.mem_insert.mp hb with rfl | hb
  · exact uc x hx
  · exact two y z hy hz hb

theorem before_sub : ∀ op ∈ before (F := F), op.bufs ⊆ ucRefs τ sig := by
  intro op h
  simp only [before, List.mem_cons, List.not_mem_nil, or_false] at h
  rcases h with rfl | rfl
  · exact two main_arg0 main_v1 rfl rfl
  · exact two main_v1 main_v2 rfl rfl
theorem later_sub : ∀ op ∈ later (F := F), op.bufs ⊆ ucRefs τ sig := by
  intro op h
  simp only [later, List.mem_cons, List.not_mem_nil, or_false] at h
  rcases h with rfl | rfl | rfl | rfl | rfl | rfl | rfl | rfl
  · exact two main_v3 main_v4 rfl rfl
  · exact two main_v0 main_v5 rfl rfl
  · exact two main_v5 main_v6 rfl rfl
  · exact three main_v4 main_v6 main_v7 rfl rfl rfl
  · exact two main_v0 main_v8 rfl rfl
  · exact two main_v8 main_v9 rfl rfl
  · exact three main_v7 main_v9 main_v10 rfl rfl rfl
  · exact two main_v10 main_v11 rfl rfl
theorem before_fresh : ∀ op ∈ before (F := F), op.fresh = ∅ := by
  intro op h
  simp only [before, List.mem_cons, List.not_mem_nil, or_false] at h
  rcases h with rfl | rfl <;> rfl
theorem later_fresh : ∀ op ∈ later (F := F), op.fresh = ∅ := by
  intro op h
  simp only [later, List.mem_cons, List.not_mem_nil, or_false] at h
  rcases h with rfl | rfl | rfl | rfl | rfl | rfl | rfl | rfl <;> rfl

/-! ## The buffers along @main -/

variable (m : (ℓ : Loc nD τ sig) → Buf (Elt F) ℓ) (ρ : Dev nD → PrngReg)

/-- At launch; after the SparseCore call; at the TensorCore call; after it; at the end. -/
def V0 (d : Dev nD) : Valuation τ sig (Elt F) := fun b => m (d, b)
def V1 (d : Dev nD) : Valuation τ sig (Elt F) := Function.update (V0 m d) (Proc.devRef .tc main_v0) (scRes m d)
def V2 (d : Dev nD) : Valuation τ sig (Elt F) := after before (V1 m d)
def V3 (d : Dev nD) : Valuation τ sig (Elt F) := afterRegion (dat (V2 m) d) (V2 m d)
def V4 (d : Dev nD) : Valuation τ sig (Elt F) := after later (V3 m d)

/-- The buffers the SparseCore call reads and writes. -/
abbrev SC : Finset (DevRef τ sig) := {Proc.devRef .tc main_arg0, Proc.devRef .tc main_arg1, Proc.devRef .tc main_v0}

theorem held_SC (d : Dev nD) (W : Valuation τ sig (Elt F)) : (held (T d) SC W : sProp 𝕄)
    = iprop((wLoc d ↦{fullShare} W (Proc.devRef .tc main_arg0)) ∗ (mLoc d ↦{fullShare} W (Proc.devRef .tc main_arg1)) ∗ oLoc d ↦{fullShare} W (Proc.devRef .tc main_v0)) := by
  unfold held
  rw [SparseCore.bigSep_insert' (by decide), SparseCore.bigSep_insert' (by decide), bigSep_singleton]

/-- The call's arguments, taken out of the buffers at launch, -/
theorem take (d : Dev nD) : (unscopedBufs d (fun b => m ((SparseCore.T d).loc b)) : sProp 𝕄)
    = iprop((bigSep Finset.univ fun c : Fin ((K (F := F)).nCore 0) => (P m).st 0 d c) ∗ held (T d) (ucRefs τ sig \ SC) (V0 m d)) := by
  refine (Pipeline.unscopedBufs_held d (V0 m d)).trans ?_
  rw [StableHlo.held_sub_split (d.tc : Thread nD τ) (show SC ⊆ ucRefs τ sig by decide) (V0 m d)]
  refine congrArg (fun X : sProp 𝕄 => iprop(X ∗ _)) ?_
  exact (held_SC d (V0 m d)).trans (tileRes_all m d (m (oLoc d))).symm

/-- and its results, put back. -/
theorem put (d : Dev nD) : (iprop((bigSep Finset.univ fun c : Fin ((K (F := F)).nCore 0) => (P m).dn 0 d c) ∗ held (T d) (ucRefs τ sig \ SC) (V0 m d)) : sProp 𝕄)
    = held (T d) (ucRefs τ sig) (V1 m d) := by
  refine Eq.trans ?_ (StableHlo.held_sub_split (d.tc : Thread nD τ) (show SC ⊆ ucRefs τ sig by decide) (V1 m d)).symm
  have h1 : (bigSep Finset.univ fun c : Fin ((K (F := F)).nCore 0) => (P m).dn 0 d c : sProp 𝕄) = held (T d) SC (V1 m d) := by
    refine Eq.trans (tileRes_all m d (scRes m d)) (Eq.trans ?_ (held_SC d (V1 m d)).symm)
    rw [show V1 m d (Proc.devRef .tc main_arg0) = m (wLoc d) from Function.update_of_ne (by decide) _ _,
      show V1 m d (Proc.devRef .tc main_arg1) = m (mLoc d) from Function.update_of_ne (by decide) _ _,
      show V1 m d (Proc.devRef .tc main_v0) = scRes m d from Function.update_self _ _ _]
  have h2 : (held (T d) (ucRefs τ sig \ SC) (V0 m d) : sProp 𝕄) = held (T d) (ucRefs τ sig \ SC) (V1 m d) :=
    StableHlo.held_congr (T d) fun b hb => (Function.update_of_ne (fun e => (Finset.mem_sdiff.mp hb).2 (by rw [e]; decide)) _ _).symm
  rw [h1, h2]

/-! ## @main -/

theorem owed_none (d : Dev nD) : (K (F := F)).Otc d 1 = 0 := by
  unfold SparseCore.Cfg.Otc
  exact Finset.sum_eq_zero fun q _ => if_neg (by omega)

/-- After the one SparseCore call every wait is far enough below whatever is owed. -/
theorem below (d : Dev nD) (W : Waits sig (HIx 1)) : (K (F := F)).WBelow (T d) W (8 * 1) := fun p _ => by
  obtain ⟨g, q⟩ := p
  cases q with
  | none => exact Nat.zero_le _
  | some q => exact ((K (F := F)).lev_some_le (T d, g) q).trans (by omega)

def FIN (d : Dev nD) : sProp 𝕄 := held (T d) (ucRefs τ sig) (V4 m d)

theorem hmain (κ : GSem nD τ sig → ℕ) (d : Dev nD) :
    iprop((K (F := F)).ctx EH (P m) κ ∗ (K (F := F)).tcSt EH d 0 ∗ (K (F := F)).tcRes m ρ d ∗ deal d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [take, main_eq, wp_bind]
  iintro ⟨#Hctx, Hst, ⟨Hb, ⟨Hsc, Hrest⟩, Hts, -⟩, Hdeal⟩
  iapply ((K (F := F)).wp_run (D (F := F)) 𝒱 (EH := EH) (P := P m) κ d 0) $$ [Hst Hsc Hb Hrest Hts Hdeal]
  isplitr; · iexact Hctx
  isplitl [Hst]; · iexact Hst
  isplitl [Hsc]; · iexact Hsc
  iintro ⟨Hst, Hdn⟩
  ihave Hh := (Entails.of_eq (put m d)) $$ [Hdn Hrest]
  · isplitl [Hdn] <;> iassumption
  iapply (StableHlo.wp_seq 𝒱 none Set.univ d (ucRefs τ sig) _ before before_sub before_fresh (V1 m d)) $$ [Hb Hh]
  · isplitl [Hb] <;> iassumption
  iintro ⟨Hb, Hh⟩
  rw [wp_bind]
  unfold SparseCore.Cfg.tcSt
  icases Hst with ⟨⟨%W, %hW, HO⟩, Hst⟩
  iapply (step (V2 m) κ m d) $$ [Hdeal Hb Hh HO Hst Hts]
  isplitr; · iexact Hctx
  isplitl [Hdeal]; · iexact Hdeal
  isplitl [Hb Hh HO]
  · isplitl [Hb]; · iexact Hb
    isplitl [Hh]; · iexact Hh
    iexists W
    rw [← owed_none (F := F) d]
    iexact HO
  iintro ⟨Hb, Hh, %W', HO⟩
  iapply (StableHlo.wp_seq 𝒱 none Set.univ d (ucRefs τ sig) _ later later_sub later_fresh (V3 m d)) $$ [Hb Hh]
  · isplitl [Hb]; · iexact Hb
    iexact Hh
  iintro ⟨Hb, Hh⟩
  rw [wp_pure]
  imodintro
  isplitl [HO Hst]
  · isplitl [HO]
    · iexists W'
      isplitr; · ipureintro; exact below d W'
      rw [owed_none (F := F) d]
      iexact HO
    iexact Hst
  isplitl [Hh]; · unfold FIN; iexact Hh
  isplitl [Hb] <;> iassumption

/-! ## What the run leaves -/

/-- The weights the TensorCore call reads. -/
def tcW (d : Dev nD) : Vec F S240x1x4096 .f32 :=
  shapeCast S240x1x4096 (extractStridedSlice S16x61440 ![0, 0] (m (wLoc d)) slices_S16x65536_S16x61440_0_0) shapeCasts_S16x61440_S240x1x4096

theorem V2_w (d : Dev nD) : V2 m d (Proc.devRef .tc main_v2) = tcW m d := by
  unfold V2 before
  after_results
  rw [show V1 m d (Proc.devRef .tc main_arg0) = m (wLoc d) from Function.update_of_ne (by decide) _ _]
  rfl
theorem V2_of_ne (d : Dev nD) (b : Ref sig .tc) (h1 : b ≠ main_v1) (h2 : b ≠ main_v2) : V2 m d (Proc.devRef .tc b) = V1 m d (Proc.devRef .tc b) := by
  unfold V2 before
  rw [StableHlo.after_cons, StableHlo.after_cons, StableHlo.after_nil]
  exact (StableHlo.reshape_result_ne _ _ _ _ _ _ _ h2).trans (StableHlo.unary_result_ne _ _ _ _ _ _ h1)
theorem V2_arg0 (d : Dev nD) : V2 m d (Proc.devRef .tc main_arg0) = m (wLoc d) :=
  (V2_of_ne m d main_arg0 (by decide) (by decide)).trans (Function.update_of_ne (by decide) _ _)
theorem V2_arg1 (d : Dev nD) : V2 m d (Proc.devRef .tc main_arg1) = m (mLoc d) :=
  (V2_of_ne m d main_arg1 (by decide) (by decide)).trans (Function.update_of_ne (by decide) _ _)
theorem V2_v0 (d : Dev nD) : V2 m d (Proc.devRef .tc main_v0) = scRes m d :=
  (V2_of_ne m d main_v0 (by decide) (by decide)).trans (Function.update_self _ _ _)

theorem arr_inj : Function.Injective (Pipeline.arrRef spec1) := launch1.win.arr_inj

theorem V3_arg0 (d : Dev nD) : V3 m d (Proc.devRef .tc main_arg0) = m (wLoc d) :=
  (Pipeline.afterRegion_keeps (dat (V2 m) d) (V2 m d) arr_inj (A_eq (V2 m) d) main_arg0 (by decide)).trans (V2_arg0 m d)
theorem V3_arg1 (d : Dev nD) : V3 m d (Proc.devRef .tc main_arg1) = m (mLoc d) :=
  (Pipeline.afterRegion_keeps (dat (V2 m) d) (V2 m d) arr_inj (A_eq (V2 m) d) main_arg1 (by decide)).trans (V2_arg1 m d)
theorem V3_v0 (d : Dev nD) : V3 m d (Proc.devRef .tc main_v0) = scRes m d :=
  (Pipeline.afterRegion_keeps (dat (V2 m) d) (V2 m d) arr_inj (A_eq (V2 m) d) main_v0 (by decide)).trans (V2_v0 m d)
theorem V3_v3 (d : Dev nD) : V3 m d (Proc.devRef .tc main_v3) = tcOut (V2 m) d :=
  (Pipeline.afterRegion_arr (dat (V2 m) d) (V2 m d) arr_inj 2).trans (final_2 (V2 m) d)

/-- The result: the TensorCore's part, and the two SparseCores' one after the other. -/
def outVal (d : Dev nD) : Vec F S16x1x1x64 .f32 :=
  broadcastInDim S16x1x1x64 ![0, 3] bcast_S16x64_S16x1x1x64_0_3
    (addf (addf (shapeCast S16x64 (tcOut (V2 m) d) shapeCasts_S16x1x64_S16x64)
        (shapeCast S16x64 (extractStridedSlice S1x16x64 ![0, 0, 0] (scRes m d) slices_S2x16x64_S1x16x64_0_0_0) shapeCasts_S1x16x64_S16x64))
      (shapeCast S16x64 (extractStridedSlice S1x16x64 ![1, 0, 0] (scRes m d) slices_S2x16x64_S1x16x64_1_0_0) shapeCasts_S1x16x64_S16x64))

theorem V4_res (d : Dev nD) : V4 m d (Proc.devRef .tc main_v11) = outVal m d := by
  unfold V4 later
  after_results
  rw [V3_v0, V3_v3]
  rfl
theorem V4_arg0 (d : Dev nD) : V4 m d (Proc.devRef .tc main_arg0) = m (wLoc d) := by
  unfold V4 later
  after_results
  exact V3_arg0 m d
theorem V4_arg1 (d : Dev nD) : V4 m d (Proc.devRef .tc main_arg1) = m (mLoc d) := by
  unfold V4 later
  after_results
  exact V3_arg1 m d

abbrev resLoc (d : Dev nD) : Loc nD τ sig := (SparseCore.T d).loc main_v11

def fq (d : Dev nD) (s' : Phys nD τ sig (Elt F)) : Prop :=
  s'.mem.mem (resLoc d) = outVal m d ∧ s'.mem.mem (wLoc d) = m (wLoc d) ∧ s'.mem.mem (mLoc d) = m (mLoc d)

theorem FIN_elim (d : Dev nD) : FIN m d ⊢ (iprop((wLoc d ↦{fullShare} m (wLoc d)) ∗ (mLoc d ↦{fullShare} m (mLoc d)) ∗ resLoc d ↦{fullShare} outVal m d) : sProp 𝕄) := by
  unfold FIN
  rw [StableHlo.held_sub_split (T d) (show ({Proc.devRef .tc main_arg0, Proc.devRef .tc main_arg1, Proc.devRef .tc main_v11} : Finset (DevRef τ sig)) ⊆ ucRefs τ sig by decide) (V4 m d)]
  refine sep_elim_left.trans (Entails.of_eq ?_)
  unfold held
  rw [SparseCore.bigSep_insert' (by decide), SparseCore.bigSep_insert' (by decide), bigSep_singleton, V4_res, V4_arg0, V4_arg1]

theorem hfin (d : Dev nD) (s' : Phys nD τ sig (Elt F)) : iprop(FIN m d ∗ SI s') ⊢ (⌜fq m d s'⌝ : sProp 𝕄) := by
  refine (sep_mono_left (FIN_elim m d)).trans ?_
  iintro ⟨⟨Hw, Hm, Ho⟩, HSI⟩
  ihave H := (persistent_entails_right (SI_pointsTo_agree (st := s') (ℓ := wLoc d) (I := Finset.univ) (q := fullShare) (f := m (wLoc d)))) $$ [HSI Hw]
  · isplitl [HSI] <;> iassumption
  icases H with ⟨%h1, HSI, -⟩
  ihave H := (persistent_entails_right (SI_pointsTo_agree (st := s') (ℓ := mLoc d) (I := Finset.univ) (q := fullShare) (f := m (mLoc d)))) $$ [HSI Hm]
  · isplitl [HSI] <;> iassumption
  icases H with ⟨%h2, HSI, -⟩
  ihave H := (SI_pointsTo_agree (st := s') (ℓ := resLoc d) (I := Finset.univ) (q := fullShare) (f := outVal m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- The program runs; its result is `outVal`, its arguments are kept, and every semaphore counter ends at zero. -/
theorem run_main [∀ e, Nonempty (Elt F e)] :
    θ_run (defs (F := F)) (threads (F := F)) ⟨m, fun _ => 0, ρ⟩ fun r =>
      (∀ d : Dev nD, r.2.mem (resLoc d) = outVal m d ∧ r.2.mem (wLoc d) = m (wLoc d) ∧ r.2.mem (mLoc d) = m (mLoc d)) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => deal d) (FIN m) (u₀ (F := F)) (sep_elim_left.trans (hu₀ m)) (hmain m ρ) (fq m) (hfin m) _ (fun _ h hz => ⟨h, hz⟩)

end Cert.KernelIdeal.Whole

end
-- ==== Proof.Math.lean ====
/-
  The arithmetic of a matrix-vector product over the extended reals, cut into pieces.

  `term w mem b v j` is the `j`-th product of row `b`, column `v` of `w · mem`; the product's element is the sum of the
  first 65536 of them. Sums over blocks, and over the even and odd rows apart, are sums over a range.
-/
module

public import Idealize.ShloMosaic.PureOps.Ideal
public import Idealize.ShloMosaic.Lib.Pipeline.Value
public import Idealize.ShloMosaic.Lib.ValueIdxCore

@[expose] public section

noncomputable section

namespace Cert.Matvec

open Idealize.ShloMosaic Idealize.ShloMosaic.ValueIdx
open scoped BigOperators

/-- The weights' and the memory's shapes, written with literal extents. -/
abbrev SW : Shape := ⟨2, ![16, 65536]⟩
abbrev SM : Shape := ⟨3, ![16, 65536, 64]⟩

/-- The `j`-th product of element `(b, v)`, zero past the last row. -/
def term (w : SW.Idx → EReal) (mem : SM.Idx → EReal) (b : Fin 16) (v : Fin 64) (j : ℕ) : EReal :=
  if h : j < 65536 then w (ix2 b ⟨j, h⟩) * mem (ix3 b ⟨j, h⟩ v) else 0

theorem term_of_lt (w : SW.Idx → EReal) (mem : SM.Idx → EReal) (b : Fin 16) (v : Fin 64) (j : Fin 65536) :
    term w mem b v j.val = w (ix2 b j) * mem (ix3 b j v) := by
  rw [term, dif_pos j.isLt]

/-- The product's element `(b, v)`. -/
def dotAt (w : SW.Idx → EReal) (mem : SM.Idx → EReal) (b : Fin 16) (v : Fin 64) : EReal :=
  ∑ j ∈ Finset.range 65536, term w mem b v j

theorem dotAt_eq_sum (w : SW.Idx → EReal) (mem : SM.Idx → EReal) (b : Fin 16) (v : Fin 64) :
    dotAt w mem b v = ∑ j : Fin 65536, w (ix2 b j) * mem (ix3 b j v) := by
  rw [dotAt, Finset.sum_range]
  exact Finset.sum_congr rfl fun j _ => term_of_lt w mem b v j

/-- `n` consecutive blocks of `K` terms are the first `n * K` terms. -/
theorem sum_blocks (T : ℕ → EReal) (b K : ℕ) : ∀ n : ℕ,
    ∑ s ∈ Finset.range n, ∑ k ∈ Finset.range K, T (b + (s * K + k)) = ∑ j ∈ Finset.range (n * K), T (b + j)
  | 0 => by simp
  | n + 1 => by rw [Finset.sum_range_succ, sum_blocks T b K n, Nat.succ_mul, Finset.sum_range_add]

/-- The even terms and the odd terms, summed apart, are the terms. -/
theorem sum_parity (T : ℕ → EReal) (b : ℕ) : ∀ n : ℕ,
    ∑ k ∈ Finset.range n, T (b + (2 * k + 0)) + ∑ k ∈ Finset.range n, T (b + (2 * k + 1)) = ∑ j ∈ Finset.range (2 * n), T (b + j)
  | 0 => by simp
  | n + 1 => by
    rw [Finset.sum_range_succ, Finset.sum_range_succ _ n, show 2 * (n + 1) = 2 * n + 1 + 1 by ring, Finset.sum_range_succ, Finset.sum_range_succ,
      ← sum_parity T b n, Nat.add_zero (2 * n)]
    exact (add_add_add_comm _ _ _ _).trans (add_assoc _ _ _).symm

/-- The product's element cut after the first 61440 terms, and the rest in halves. -/
theorem dotAt_cut (w : SW.Idx → EReal) (mem : SM.Idx → EReal) (b : Fin 16) (v : Fin 64) :
    dotAt w mem b v = ∑ j ∈ Finset.range 61440, term w mem b v j
      + ∑ j ∈ Finset.range 2048, term w mem b v (61440 + j) + ∑ j ∈ Finset.range 2048, term w mem b v (63488 + j) := by
  unfold dotAt
  rw [show (65536 : ℕ) = 61440 + 2048 + 2048 from rfl, Finset.sum_range_add, Finset.sum_range_add]

/-- The float word `+0.0` is the real zero. -/
theorem ofBits_zero : Ideal.ofBits .f32 0x00000000#32 = 0 := by simp [Ideal.ofBits, Ideal.ieee]

end Cert.Matvec

end
-- ==== Proof.TcValue.lean ====
/-
  What the TensorCore call leaves over the extended reals: element `(b, 0, v)` is the sum of the products of the first 61440 rows.
-/
module

public import proofs.«01_k».proof.Proof.Math
public import proofs.«01_k».proof.Proof.Run

@[expose] public section

set_option maxRecDepth 16384

noncomputable section

namespace Cert.KernelIdeal.Dot

open Cert.KernelIdeal Cert.KernelIdeal.Gen Cert.KernelIdeal.Tc Cert.KernelIdeal.Whole Cert.Matvec
open Idealize.ShloMosaic Idealize.ShloMosaic.ValueIdx Idealize.ShloMosaic.TcCoe
open scoped BigOperators

/-- The block product's dimension numbers. -/
abbrev D := dot_S4096_S4096x64_S64_0_0_n_1_n_n

theorem lhs_0 (j : S64.Idx) (k : D.contr.Idx) : (D.lhsIdx j k 0 : ℕ) = k ⟨0, by decide⟩ := by
  simp [DotDims.lhsIdx, D, dot_S4096_S4096x64_S64_0_0_n_1_n_n]; rfl
theorem rhs_0 (j : S64.Idx) (k : D.contr.Idx) : (D.rhsIdx j k 0 : ℕ) = k ⟨0, by decide⟩ := by
  simp [DotDims.rhsIdx, D, dot_S4096_S4096x64_S64_0_0_n_1_n_n]; rfl
theorem rhs_1 (j : S64.Idx) (k : D.contr.Idx) : (D.rhsIdx j k 1 : ℕ) = j 0 := by
  simp [DotDims.rhsIdx, D, dot_S4096_S4096x64_S64_0_0_n_1_n_n]; rfl

/-- A block's product at column `v`. -/
def blockDot (x0 : Vec Ideal S1x1x4096 .f32) (x1 : Vec Ideal S1x4096x64 .f32) (v : Fin 64) : EReal :=
  ∑ k : Fin 4096, x0 (ix3 0 0 k) * x1 (ix3 0 k v)

/-- One grid point adds its block's products to what the output block holds. -/
theorem pay2_apply (acc : Vec Ideal S1x1x64 .f32) (x0 : Vec Ideal S1x1x4096 .f32) (x1 : Vec Ideal S1x4096x64 .f32) (v : Fin 64) :
    k1_pay2 acc x0 x1 (ix3 0 0 v)
      = acc (ix3 0 0 v) + blockDot x0 x1 v := by
  unfold k1_pay2
  show FloatOps.addf _ _ = _
  rw [Ideal.addf_def, shapeCast_self]
  refine congrArg (acc (ix3 0 0 v) + ·) ?_
  rw [shapeCast_apply _ _ (ix3 0 0 v) (ix1 v) (by
    rw [Shape.rowMajor_val_three, Shape.rowMajor_val_one]
    show v.val = (0 * 1 + 0) * 64 + v.val
    omega)]
  unfold matmul
  rw [Ideal.matmul_def]
  unfold Ideal.matmul
  rw [show constant (F := Ideal) S64 .f32 0x00000000#32 (ix1 v) = 0 from ofBits_zero, zero_add,
    ← Equiv.sum_comp (contrEquiv1 D 4096 (by decide) (by decide)).symm]
  refine Finset.sum_congr rfl fun k _ => ?_
  have hk := contrEquiv1_symm_val D 4096 (by decide) (by decide) k
  congr 1
  · refine shapeCast_apply _ _ _ (ix3 0 0 k) ?_
    rw [Shape.rowMajor_val_three, Shape.rowMajor_val_one]
    show (0 * 1 + 0) * 4096 + k.val = _
    rw [lhs_0 (ix1 v), hk]; omega
  · refine shapeCast_apply _ _ _ (ix3 0 k v) ?_
    rw [Shape.rowMajor_val_three, Shape.rowMajor_val_two]
    show (0 * 4096 + k.val) * 64 + v.val = (D.rhsIdx (ix1 v) _ 0 : ℕ) * 64 + (D.rhsIdx (ix1 v) _ 1 : ℕ)
    rw [rhs_0 (ix1 v), rhs_1 (ix1 v), hk]
    show (0 * 4096 + k.val) * 64 + v.val = k.val * 64 + v.val
    omega

/-- The reset block is zero. -/
theorem pay1_apply (j : S1x1x64.Idx) : k1_pay1 (F := Ideal) j = 0 := ofBits_zero

/-- The printed index maps, decided over the grid. -/
theorem idx_in : ∀ t : Fin cfg1.N, win1_0.index t (0 : Fin 3) = t.val ∧ win1_0.index t (1 : Fin 3) = 0 ∧ win1_0.index t (2 : Fin 3) = 0
    ∧ win1_1.index t (0 : Fin 3) = t.val / 15 ∧ win1_1.index t (1 : Fin 3) = t.val % 15 ∧ win1_1.index t (2 : Fin 3) = 0 :=
  (by decide +kernel : ∀ t : Fin grid1.N, _)

variable (m : (ℓ : Loc nD τ sig) → Buf (Elt Ideal) ℓ)

/-- The two arguments, as arrays. -/
abbrev wArr (c : Dev nD) : Vec Ideal S16x65536 .f32 := m ((c : Thread nD τ).loc main_arg0)
abbrev memArr (c : Dev nD) : Vec Ideal S16x65536x64 .f32 := m ((c : Thread nD τ).loc main_arg1)

/-- Point `t`'s block of weights: row `t / 15`, from column `4096 * (t % 15)`. -/
theorem blk0_apply (c : Dev nD) (t : Fin cfg1.N) (k : Fin 4096) (b : Fin 16) (j : Fin 65536)
    (hb : b.val = t.val / 15) (hj : j.val = 4096 * (t.val % 15) + k.val) :
    (blk (V2 m) c 0 t : Vec Ideal S1x1x4096 .f32) (ix3 0 0 k) = wArr m c (ix2 b j) := by
  obtain ⟨e0, e1, e2, -, -, -⟩ := idx_in t
  have hl : j.val < 61440 := by have := Nat.mod_lt t.val (show 0 < 15 by decide); have := k.isLt; omega
  unfold blk
  rw [View.read_apply]
  show (V2 m c (Proc.devRef .tc main_v2) : Vec Ideal S240x1x4096 .f32) _ = _
  rw [V2_w]
  unfold tcW
  refine (shapeCast_apply _ _ _ (ix2 b (⟨j.val, hl⟩ : Fin 61440)) ?_).trans ?_
  · rw [Shape.rowMajor_val_three, Shape.rowMajor_val_two]
    show b.val * 61440 + j.val = ((win1_0.index t 0 * 1 + 1 * 0) * 1 + (win1_0.index t 1 * 1 + 1 * 0)) * 4096 + (win1_0.index t 2 * 4096 + 1 * k.val)
    rw [e0, e1, e2]
    omega
  · refine extractStridedSlice_apply _ _ _ _ (ix2 b j) fun a => ?_
    match a with
    | ⟨0, _⟩ => show b.val = 0 + b.val; omega
    | ⟨1, _⟩ => show j.val = 0 + j.val; omega

/-- Point `t`'s block of the memory: matrix `t / 15`, from row `4096 * (t % 15)`. -/
theorem blk1_apply (c : Dev nD) (t : Fin cfg1.N) (k : Fin 4096) (v : Fin 64) (b : Fin 16) (j : Fin 65536)
    (hb : b.val = t.val / 15) (hj : j.val = 4096 * (t.val % 15) + k.val) :
    (blk (V2 m) c 1 t : Vec Ideal S1x4096x64 .f32) (ix3 0 k v) = memArr m c (ix3 b j v) := by
  obtain ⟨-, -, -, e0, e1, e2⟩ := idx_in t
  unfold blk
  rw [View.read_apply]
  show V2 m c (Proc.devRef .tc main_arg1) _ = _
  rw [V2_arg1]
  refine congrArg (memArr m c) ?_
  funext a; apply Fin.ext
  match a with
  | ⟨0, _⟩ => show win1_1.index t 0 * 1 + 1 * 0 = b.val; rw [e0]; omega
  | ⟨1, _⟩ => show win1_1.index t 1 * 4096 + 1 * k.val = j.val; rw [e1]; omega
  | ⟨2, _⟩ => show win1_1.index t 2 * 64 + 1 * v.val = v.val; rw [e2]; omega

/-- Point `t`'s block product is a block of the terms. -/
theorem blk_sum (c : Dev nD) (t : Fin cfg1.N) (v : Fin 64) (b : Fin 16) (hb : b.val = t.val / 15) :
    blockDot (blk (V2 m) c 0 t) (blk (V2 m) c 1 t) v
      = ∑ k ∈ Finset.range 4096, term (wArr m c) (memArr m c) b v (0 + (t.val % 15 * 4096 + k)) := by
  rw [blockDot, Finset.sum_range]
  refine Finset.sum_congr rfl fun k _ => ?_
  have hlt : 0 + (t.val % 15 * 4096 + k.val) < 65536 := by
    have := Nat.mod_lt t.val (show 0 < 15 by decide); have := k.isLt; omega
  rw [blk0_apply m c t k b ⟨_, hlt⟩ hb (by show 0 + (t.val % 15 * 4096 + k.val) = _; omega),
    blk1_apply m c t k v b ⟨_, hlt⟩ hb (by show 0 + (t.val % 15 * 4096 + k.val) = _; omega)]
  exact (term_of_lt _ _ _ _ ⟨_, hlt⟩).symm

/-- The fold of row `b`'s points: the products of the blocks so far. -/
theorem acc_apply (c : Dev nD) (v : Fin 64) (b : Fin 16) : ∀ (j : ℕ) (_ : j < 15),
    acc (V2 m) c (15 * b.val + j) (ix3 0 0 v)
      = ∑ s ∈ Finset.range (j + 1), ∑ k ∈ Finset.range 4096, term (wArr m c) (memArr m c) b v (0 + (s * 4096 + k))
  | 0, _ => by
    have h : 15 * b.val + 0 < cfg1.N := by rw [show cfg1.N = 240 from N_1]; have := b.isLt; omega
    rw [acc_first (V2 m) c ⟨15 * b.val + 0, h⟩ (by show (15 * b.val + 0) % 15 = 0; omega), pay2_apply, pay1_apply, zero_add,
      blk_sum m c ⟨15 * b.val + 0, h⟩ v b (by show _ = (15 * b.val + 0) / 15; omega), Finset.sum_range_one,
      show (15 * b.val + 0) % 15 = 0 by omega]
  | j + 1, hj => by
    have h : 15 * b.val + (j + 1) < cfg1.N := by rw [show cfg1.N = 240 from N_1]; have := b.isLt; omega
    rw [acc_later (V2 m) c ⟨15 * b.val + (j + 1), h⟩ (by show ¬(15 * b.val + (j + 1)) % 15 = 0; omega), pay2_apply,
      show 15 * b.val + (j + 1) - 1 = 15 * b.val + j by omega, acc_apply c v b j (by omega), Finset.sum_range_succ _ (j + 1),
      blk_sum m c ⟨15 * b.val + (j + 1), h⟩ v b (by show _ = (15 * b.val + (j + 1)) / 15; omega),
      show (15 * b.val + (j + 1)) % 15 = j + 1 by omega]

/-- The result array's element `(b, 0, v)`. -/
theorem tcOut_apply (c : Dev nD) (b : Fin 16) (u : Fin 1) (v : Fin 64) :
    tcOut (V2 m) c (ix3 b u v) = ∑ j ∈ Finset.range 61440, term (wArr m c) (memArr m c) b v j := by
  refine ((acc_apply m c v b 14 (by omega)).trans (sum_blocks (term (wArr m c) (memArr m c) b v) 0 4096 15)).trans ?_
  exact Finset.sum_congr rfl fun j _ => by rw [Nat.zero_add]

end Cert.KernelIdeal.Dot

end
-- ==== Proof.OutValue.lean ====
/-
  The whole kernel's result over the extended reals: the TensorCore's sum of the first 61440 products and the two
  SparseCores' sums of the last 4096, each the even rows' and the odd rows', are the matrix-vector product.
-/
module

public import proofs.«01_k».proof.Proof.TcValue

@[expose] public section

set_option maxRecDepth 16384

noncomputable section

namespace Cert.KernelIdeal.Dot

open Cert.KernelIdeal Cert.KernelIdeal.Gen Cert.KernelIdeal.Sc Cert.KernelIdeal.Tc Cert.KernelIdeal.Whole Cert.Matvec
open Idealize.ShloMosaic Idealize.ShloMosaic.ValueIdx Idealize.ShloMosaic.TcCoe
open scoped BigOperators

/-- A chain of additions from zero is a sum. -/
theorem chain_eq (x : ℕ → Ideal .f32) : ∀ n : ℕ, chain x n = ∑ k ∈ Finset.range n, (x k : EReal)
  | 0 => by rw [Finset.sum_range_zero]; exact ofBits_zero
  | n + 1 => by
    show FloatOps.addf (chain x n) (x n) = _
    rw [Ideal.addf_def, chain_eq x n, Finset.sum_range_succ]

/-- A row's product is the term of its number. -/
theorem prod_eq (w : S16x65536.Idx → Ideal .f32) (mem : S16x65536x64.Idx → Ideal .f32) (b : Fin 16) (base r : ℕ) (v : Fin 64)
    (h : base + r < 65536) : prod w mem b base r v.val = term w mem b v (base + r) := by
  have e : Fin.ofNat 65536 (base + r) = ⟨base + r, h⟩ := Fin.ext (Nat.mod_eq_of_lt h)
  have e' : Fin.ofNat 64 v.val = v := Fin.ext (Nat.mod_eq_of_lt v.isLt)
  unfold prod
  rw [e, e']
  exact (term_of_lt w mem b v ⟨base + r, h⟩).symm

/-- What SparseCore `h` leaves for batch `b` and column `v`: the products of its 2048 rows. -/
theorem scOut_apply (w : S16x65536.Idx → Ideal .f32) (mem : S16x65536x64.Idx → Ideal .f32) (h : Fin 2) (b : Fin 16) (v : Fin 64) :
    scOut w mem (ix3 h b v) = ∑ j ∈ Finset.range 2048, term w mem b v (61440 + 2048 * h.val + j) := by
  have hh := h.isLt
  show FloatOps.addf (chain (fun k => prod w mem b (61440 + 2048 * h.val) (2 * k + 0) v.val) 1024)
    (chain (fun k => prod w mem b (61440 + 2048 * h.val) (2 * k + 1) v.val) 1024) = _
  rw [Ideal.addf_def, chain_eq, chain_eq]
  refine Eq.trans ?_ (sum_parity (term w mem b v) (61440 + 2048 * h.val) 1024)
  refine congrArg₂ (fun x y : EReal => x + y) ?_ ?_
  · refine Finset.sum_congr rfl fun k hk => prod_eq w mem b _ _ v ?_
    have := Finset.mem_range.mp hk; omega
  · refine Finset.sum_congr rfl fun k hk => prod_eq w mem b _ _ v ?_
    have := Finset.mem_range.mp hk; omega

variable (m : (ℓ : Loc nD τ sig) → Buf (Elt Ideal) ℓ)

/-- One SparseCore's part as @main takes it out of the array. -/
theorem part_apply (x : Vec Ideal S2x16x64 .f32) (h : Fin 2) (hs : S2x16x64.Slices ![h.val, 0, 0] S1x16x64) (b : Fin 16) (v : Fin 64) :
    shapeCast S16x64 (extractStridedSlice S1x16x64 ![h.val, 0, 0] x hs) shapeCasts_S1x16x64_S16x64 (ix2 b v) = x (ix3 h b v) := by
  refine (shapeCast_apply _ _ _ (ix3 (0 : Fin 1) b v) ?_).trans (extractStridedSlice_apply _ _ _ _ (ix3 h b v) fun a => ?_)
  · rw [Shape.rowMajor_val_three, Shape.rowMajor_val_two]
    show (0 * 16 + b.val) * 64 + v.val = b.val * 64 + v.val
    omega
  · match a with
    | ⟨0, _⟩ => show h.val = h.val + 0; omega
    | ⟨1, _⟩ => show b.val = 0 + b.val; omega
    | ⟨2, _⟩ => show v.val = 0 + v.val; omega

/-- The kernel's result at `(b, 0, 0, v)` is the product's element. -/
theorem outVal_apply (c : Dev nD) (b : Fin 16) (u u' : Fin 1) (v : Fin 64) :
    outVal m c (ix4 b u u' v) = dotAt (wArr m c) (memArr m c) b v := by
  unfold outVal
  rw [broadcastInDim_apply _ _ _ _ (ix2 b v) (fun a => by
    match a with
    | ⟨0, _⟩ => exact (if_neg (show ¬(16 : ℕ) = 1 by decide)).symm
    | ⟨1, _⟩ => exact (if_neg (show ¬(64 : ℕ) = 1 by decide)).symm)]
  show FloatOps.addf (FloatOps.addf _ _) _ = _
  rw [Ideal.addf_def, Ideal.addf_def, dotAt_cut]
  refine congrArg₂ (fun x y : EReal => x + y) (congrArg₂ (fun x y : EReal => x + y) ?_ ?_) ?_
  · refine (shapeCast_apply _ _ _ (ix3 b (0 : Fin 1) v) ?_).trans (tcOut_apply m c b 0 v)
    rw [Shape.rowMajor_val_three, Shape.rowMajor_val_two]
    show (b.val * 1 + 0) * 64 + v.val = b.val * 64 + v.val
    omega
  · exact (part_apply (scRes m c) 0 slices_S2x16x64_S1x16x64_0_0_0 b v).trans (scOut_apply (wArr m c) (memArr m c) 0 b v)
  · exact (part_apply (scRes m c) 1 slices_S2x16x64_S1x16x64_1_0_0 b v).trans (scOut_apply (wArr m c) (memArr m c) 1 b v)

end Cert.KernelIdeal.Dot

end
-- ==== Proof.RefValue.lean ====
/-
  What the reference computes over the extended reals: element `(b, 0, 0, v)` of its result is `Cert.Matvec.dotAt`.
-/
module

public import proofs.«01_k».proof.Proof.Math
public import proofs.«01_k».proof.Proof.Gen.ReferenceIdeal.Run

@[expose] public section

set_option maxRecDepth 16384

noncomputable section

namespace Cert.ReferenceIdeal.Dot

open Cert.ReferenceIdeal Cert.ReferenceIdeal.Gen Cert.Matvec Idealize.ShloMosaic Idealize.ShloMosaic.ValueIdx
open scoped BigOperators

/-- The reference's dimension numbers. -/
abbrev D := dot_S16x1x65536_S16x65536x64_S16x1x64_2_1_1_2_0_0

theorem lhs_0 (j : S16x1x64.Idx) (k : D.contr.Idx) : (D.lhsIdx j k 0 : ℕ) = j 0 := by
  simp [DotDims.lhsIdx, D, dot_S16x1x65536_S16x65536x64_S16x1x64_2_1_1_2_0_0]; rfl
theorem lhs_2 (j : S16x1x64.Idx) (k : D.contr.Idx) : (D.lhsIdx j k 2 : ℕ) = k ⟨0, by decide⟩ := by
  simp [DotDims.lhsIdx, D, dot_S16x1x65536_S16x65536x64_S16x1x64_2_1_1_2_0_0]; rfl
theorem rhs_0 (j : S16x1x64.Idx) (k : D.contr.Idx) : (D.rhsIdx j k 0 : ℕ) = j 0 := by
  simp [DotDims.rhsIdx, D, dot_S16x1x65536_S16x65536x64_S16x1x64_2_1_1_2_0_0]; rfl
theorem rhs_1 (j : S16x1x64.Idx) (k : D.contr.Idx) : (D.rhsIdx j k 1 : ℕ) = k ⟨0, by decide⟩ := by
  simp [DotDims.rhsIdx, D, dot_S16x1x65536_S16x65536x64_S16x1x64_2_1_1_2_0_0]; rfl
theorem rhs_2 (j : S16x1x64.Idx) (k : D.contr.Idx) : (D.rhsIdx j k 2 : ℕ) = j 2 := by
  simp [DotDims.rhsIdx, D, dot_S16x1x65536_S16x65536x64_S16x1x64_2_1_1_2_0_0]; rfl

/-- The host's product of the weights (with a unit axis) and the memory, read at an element. -/
theorem dot_apply (w : Vec Ideal S16x65536 .f32) (mem : Vec Ideal S16x65536x64 .f32) (b : Fin 16) (u : Fin 1) (v : Fin 64) :
    Host.dotGeneral (F := Ideal) (φ₁ := .f32) (φ₂ := .f32) D none
      (broadcastInDim S16x1x65536 ![0, 2] Facts₀.bcast_S16x65536_S16x1x65536_0_2 w) mem (ix3 b u v)
      = dotAt w mem b v := by
  refine Eq.trans ?_ (dotAt_eq_sum w mem b v).symm
  unfold Host.dotGeneral
  rw [Ideal.dotGeneral_def]
  unfold Ideal.matmul
  rw [zero_add, ← Equiv.sum_comp (contrEquiv1 D 65536 (by decide) (by decide)).symm]
  refine Finset.sum_congr rfl fun k _ => ?_
  have hk := contrEquiv1_symm_val D 65536 (by decide) (by decide) k
  congr 1
  · refine broadcastInDim_apply _ _ _ _ (ix2 b k) fun a => ?_
    match a with
    | ⟨0, _⟩ => exact ((if_neg (show ¬(16 : ℕ) = 1 by decide)).trans (lhs_0 (ix3 b u v) _)).symm
    | ⟨1, _⟩ => exact ((if_neg (show ¬(65536 : ℕ) = 1 by decide)).trans ((lhs_2 (ix3 b u v) _).trans hk)).symm
  · congr 1
    funext a; apply Fin.ext
    match a with
    | ⟨0, _⟩ => exact rhs_0 (ix3 b u v) _
    | ⟨1, _⟩ => exact (rhs_1 (ix3 b u v) _).trans hk
    | ⟨2, _⟩ => exact rhs_2 (ix3 b u v) _

/-- The result, which has one more unit axis. -/
theorem res_apply (w : Vec Ideal S16x65536 .f32) (mem : Vec Ideal S16x65536x64 .f32) (b : Fin 16) (u u' : Fin 1) (v : Fin 64) :
    broadcastInDim S16x1x1x64 ![0, 2, 3] Facts₀.bcast_S16x1x64_S16x1x1x64_0_2_3
      (Host.dotGeneral (F := Ideal) (φ₁ := .f32) (φ₂ := .f32) D none
        (broadcastInDim S16x1x65536 ![0, 2] Facts₀.bcast_S16x65536_S16x1x65536_0_2 w) mem) (ix4 b u u' v)
      = dotAt w mem b v := by
  rw [broadcastInDim_apply _ _ _ _ (ix3 b (0 : Fin 1) v) (fun a => by
    match a with
    | ⟨0, _⟩ => exact (if_neg (show ¬(16 : ℕ) = 1 by decide)).symm
    | ⟨1, _⟩ => exact (if_pos (show (1 : ℕ) = 1 from rfl)).symm
    | ⟨2, _⟩ => exact (if_neg (show ¬(64 : ℕ) = 1 by decide)).symm)]
  exact dot_apply w mem b 0 v

end Cert.ReferenceIdeal.Dot

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.OutValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The machine program and the idealized one have the same text, so the same bodies, processor by processor. -/
theorem defs₀_eq : Cert.Kernel.defs₀ (F := Bits) = Cert.KernelIdeal.defs₀ (F := Bits) := by
  funext pr ℓ a
  match pr, ℓ, a with
  | .tc, 0, _ => rfl
  | .tc, 1, (_, _) => rfl
  | .scScalar _, 0, _ => rfl
  | .scScalar _, 1, _ => rfl
  | .scVector _ _, 0, _ => rfl
  | .scVector _ _, 1, _ => rfl

theorem defs_eq : Cert.Kernel.defs (F := Bits) = Cert.KernelIdeal.defs (F := Bits) :=
  congrArg (fun D => Cert.Kernel.sc.defs (Pipeline.defs Cert.Kernel.pcfgs D)) defs₀_eq

/-- The run is proved over any float values: the machine program's frame is it at the machine's floats, with the result's
    value dropped. -/
theorem frame_kernel : quiescent_Kernel := fun m ρ _ => by
  rw [defs_eq]
  exact (θ_run Cert.KernelIdeal.defs Cert.KernelIdeal.threads _).mono (fun _ h => ⟨fun c => (h.1 c).2, h.2⟩)
    (Cert.KernelIdeal.Whole.run_main (F := Bits) m ρ)

theorem frame_ideal : quiescent_KernelIdeal := fun m ρ _ =>
  (θ_run Cert.KernelIdeal.defs _ _).mono (fun _ h => ⟨fun c => (h.1 c).2, h.2⟩) (Cert.KernelIdeal.Whole.run_main (F := Ideal) m ρ)

theorem frame_reference : quiescent_ReferenceIdeal := fun m ρ _ =>
  (θ_run _ _ _).mono (fun r h => ⟨fun c => (h c).2, sem_eq_zero_of_no_sems (by decide) r.2⟩) (Cert.ReferenceIdeal.Value.run m ρ)

/-- Both programs' results are the same array: element `(b, 0, 0, v)` is the product's. -/
theorem algebraic : algebraic_KernelIdeal_ReferenceIdeal := fun m ρ m' ρ' _ hag =>
  ⟨fun c => Cert.KernelIdeal.Whole.outVal m c,
    (θ_run Cert.KernelIdeal.defs _ _).mono (fun _ h => h.1) (Cert.KernelIdeal.Whole.run_main (F := Ideal) m ρ),
    (θ_run _ _ _).mono (fun _ h c => ⟨(h c).1.trans (by
      rw [(hag c).1, (hag c).2]
      funext j
      rw [ValueIdx.eq_ix4 j]
      exact (Cert.ReferenceIdeal.Dot.res_apply _ _ _ _ _ _).trans (Cert.KernelIdeal.Dot.outVal_apply m c _ _ _ _).symm),
      (h c).2⟩) (Cert.ReferenceIdeal.Value.run m' ρ')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
